-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_XSide (m : (ℓ : Loc Cert.XSide.nD Cert.XSide.τ Cert.XSide.sig) → Buf (Elt Bits) ℓ) : Prop :=
  True

def Pre_XSideIdeal (m : (ℓ : Loc Cert.XSideIdeal.nD Cert.XSideIdeal.τ Cert.XSideIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_XSide [hXSide : Cert.XSide.Facts] : Prop :=
  ∀ (m : (ℓ : Loc Cert.XSide.nD Cert.XSide.τ Cert.XSide.sig) → Buf (Elt Bits) ℓ) (g : Dev Cert.XSide.nD → PrngReg), Pre_XSide m →
    θ_run (Cert.XSide.defs (F := Bits)) (onTc (τ := Cert.XSide.τ) (Cert.XSide.main (F := Bits))) ⟨m, fun _ => 0, g⟩ (fun r => (∀ c : Dev Cert.XSide.nD,
      r.2.mem ((c.tc : Thread Cert.XSide.nD Cert.XSide.τ).loc Cert.XSide.main_arg0) = m ((c.tc : Thread Cert.XSide.nD Cert.XSide.τ).loc Cert.XSide.main_arg0)
      ∧ r.2.mem ((c.tc : Thread Cert.XSide.nD Cert.XSide.τ).loc Cert.XSide.main_arg1) = m ((c.tc : Thread Cert.XSide.nD Cert.XSide.τ).loc Cert.XSide.main_arg1)
      ∧ r.2.mem ((c.tc : Thread Cert.XSide.nD Cert.XSide.τ).loc Cert.XSide.main_arg2) = m ((c.tc : Thread Cert.XSide.nD Cert.XSide.τ).loc Cert.XSide.main_arg2)
      ∧ r.2.mem ((c.tc : Thread Cert.XSide.nD Cert.XSide.τ).loc Cert.XSide.main_arg3) = m ((c.tc : Thread Cert.XSide.nD Cert.XSide.τ).loc Cert.XSide.main_arg3))
      ∧ r.2.sem = fun _ => 0)

def quiescent_XSideIdeal [hXSideIdeal : Cert.XSideIdeal.Facts] : Prop :=
  ∀ (m : (ℓ : Loc Cert.XSideIdeal.nD Cert.XSideIdeal.τ Cert.XSideIdeal.sig) → Buf (Elt Ideal) ℓ) (g : Dev Cert.XSideIdeal.nD → PrngReg), Pre_XSideIdeal m →
    θ_run (Cert.XSideIdeal.defs (F := Ideal)) (onTc (τ := Cert.XSideIdeal.τ) (Cert.XSideIdeal.main (F := Ideal))) ⟨m, fun _ => 0, g⟩ (fun r => (∀ c : Dev Cert.XSideIdeal.nD,
      r.2.mem ((c.tc : Thread Cert.XSideIdeal.nD Cert.XSideIdeal.τ).loc Cert.XSideIdeal.main_arg0) = m ((c.tc : Thread Cert.XSideIdeal.nD Cert.XSideIdeal.τ).loc Cert.XSideIdeal.main_arg0)
      ∧ r.2.mem ((c.tc : Thread Cert.XSideIdeal.nD Cert.XSideIdeal.τ).loc Cert.XSideIdeal.main_arg1) = m ((c.tc : Thread Cert.XSideIdeal.nD Cert.XSideIdeal.τ).loc Cert.XSideIdeal.main_arg1)
      ∧ r.2.mem ((c.tc : Thread Cert.XSideIdeal.nD Cert.XSideIdeal.τ).loc Cert.XSideIdeal.main_arg2) = m ((c.tc : Thread Cert.XSideIdeal.nD Cert.XSideIdeal.τ).loc Cert.XSideIdeal.main_arg2)
      ∧ r.2.mem ((c.tc : Thread Cert.XSideIdeal.nD Cert.XSideIdeal.τ).loc Cert.XSideIdeal.main_arg3) = m ((c.tc : Thread Cert.XSideIdeal.nD Cert.XSideIdeal.τ).loc Cert.XSideIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_XSide_XSideIdeal : Prop :=
  IdealRules.bf16_pack.Statement Cert.XSideIdeal.S56x128
  ∧ IdealRules.bf16_pair.Statement Cert.XSideIdeal.S112x128 Cert.XSideIdeal.S56x128

def Claim : Prop :=
  ∃ (hKernel : Cert.Kernel.Facts) (hKernelIdeal : Cert.KernelIdeal.Facts) (hReferenceIdeal : Cert.ReferenceIdeal.Facts) (hXSide : Cert.XSide.Facts) (hXSideIdeal : Cert.XSideIdeal.Facts),
    quiescent_Kernel (hKernel := hKernel)
    ∧ quiescent_KernelIdeal (hKernelIdeal := hKernelIdeal)
    ∧ quiescent_ReferenceIdeal (hReferenceIdeal := hReferenceIdeal)
    ∧ quiescent_XSide (hXSide := hXSide)
    ∧ quiescent_XSideIdeal (hXSideIdeal := hXSideIdeal)
    ∧ preserves_Kernel_KernelIdeal
    ∧ algebraic_KernelIdeal_ReferenceIdeal (hKernelIdeal := hKernelIdeal) (hReferenceIdeal := hReferenceIdeal)
    ∧ preserves_XSide_XSideIdeal
-- ==== Kernel.lean ====
abbrev S2048x18944 : Shape := ⟨2, ![2048, 18944]⟩
abbrev S1792x18944 : Shape := ⟨2, ![1792, 18944]⟩
abbrev S18944 : Shape := ⟨1, ![18944]⟩
abbrev S1x18944 : Shape := ⟨2, ![1, 18944]⟩
abbrev S16x3584x128 : Shape := ⟨3, ![16, 3584, 128]⟩
abbrev S1x512 : Shape := ⟨2, ![1, 512]⟩
abbrev S2048x512 : Shape := ⟨2, ![2048, 512]⟩
abbrev S1792x128 : Shape := ⟨2, ![1792, 128]⟩
abbrev S4x3584x128 : Shape := ⟨3, ![4, 3584, 128]⟩
abbrev S_ : Shape := ⟨0, ![]⟩
abbrev S448x128 : Shape := ⟨2, ![448, 128]⟩
abbrev S1x128 : Shape := ⟨2, ![1, 128]⟩
abbrev S8x128 : Shape := ⟨2, ![8, 128]⟩
abbrev S16x128 : Shape := ⟨2, ![16, 128]⟩
abbrev S1x16x128 : Shape := ⟨3, ![1, 16, 128]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 5
  | .vmem => 15
  | .smem => 0
  | _ => 0

abbrev bufTy : (tb : Table) → Fin (tcTables nBuf tb) → BufTy
  | .hbm, ⟨0, _⟩ => ⟨S2048x18944, .bf16⟩
  | .hbm, ⟨1, _⟩ => ⟨S1792x18944, .i8⟩
  | .hbm, ⟨2, _⟩ => ⟨S18944, .f32⟩
  | .hbm, ⟨3, _⟩ => ⟨S1x18944, .f32⟩
  | .hbm, ⟨4, _⟩ => ⟨S16x3584x128, .f32⟩
  | .local _ .vmem, ⟨0, _⟩ => ⟨S1x512, .f32⟩
  | .local _ .vmem, ⟨1, _⟩ => ⟨S1x512, .f32⟩
  | .local _ .vmem, ⟨2, _⟩ => ⟨S2048x512, .bf16⟩
  | .local _ .vmem, ⟨3, _⟩ => ⟨S2048x512, .bf16⟩
  | .local _ .vmem, ⟨4, _⟩ => ⟨S1792x128, .i8⟩
  | .local _ .vmem, ⟨5, _⟩ => ⟨S1792x128, .i8⟩
  | .local _ .vmem, ⟨6, _⟩ => ⟨S1792x128, .i8⟩
  | .local _ .vmem, ⟨7, _⟩ => ⟨S1792x128, .i8⟩
  | .local _ .vmem, ⟨8, _⟩ => ⟨S1792x128, .i8⟩
  | .local _ .vmem, ⟨9, _⟩ => ⟨S1792x128, .i8⟩
  | .local _ .vmem, ⟨10, _⟩ => ⟨S1792x128, .i8⟩
  | .local _ .vmem, ⟨11, _⟩ => ⟨S1792x128, .i8⟩
  | .local _ .vmem, ⟨12, _⟩ => ⟨S4x3584x128, .bf16⟩
  | .local _ .vmem, ⟨13, _⟩ => ⟨S16x3584x128, .f32⟩
  | .local _ .vmem, ⟨14, _⟩ => ⟨S448x128, .i32⟩
  | _, _ => ⟨S2048x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![c0_i32.toNat, v1.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x18944 : Shape := ⟨2, ![2048, 18944]⟩
abbrev S1792x18944 : Shape := ⟨2, ![1792, 18944]⟩
abbrev S18944 : Shape := ⟨1, ![18944]⟩
abbrev S_ : Shape := ⟨0, ![]⟩
abbrev S1x18944 : Shape := ⟨2, ![1, 18944]⟩
abbrev S2048x1792 : Shape := ⟨2, ![2048, 1792]⟩
abbrev S2048x1792x1 : Shape := ⟨3, ![2048, 1792, 1]⟩
abbrev S2048x1792x2 : Shape := ⟨3, ![2048, 1792, 2]⟩
abbrev S2048x3584 : Shape := ⟨2, ![2048, 3584]⟩
abbrev S16x128x56x8x2x4 : Shape := ⟨6, ![16, 128, 56, 8, 2, 4]⟩
abbrev S16x8x4x56x2x128 : Shape := ⟨6, ![16, 8, 4, 56, 2, 128]⟩
abbrev S16x3584x128 : Shape := ⟨3, ![16, 3584, 128]⟩

abbrev nBuf : Space → Nat
  | .hbm => 42
  | .vmem => 0
  | .smem => 0
  | _ => 0

abbrev bufTy : (tb : Table) → Fin (tcTables nBuf tb) → BufTy
  | .hbm, ⟨0, _⟩ => ⟨S2048x18944, .bf16⟩
  | .hbm, ⟨1, _⟩ => ⟨S1792x18944, .i8⟩
  | .hbm, ⟨2, _⟩ => ⟨S18944, .f32⟩
  | .hbm, ⟨3, _⟩ => ⟨S18944, .bf16⟩
  | .hbm, ⟨4, _⟩ => ⟨S1792x18944, .i32⟩
  | .hbm, ⟨5, _⟩ => ⟨S_, .i32⟩
  | .hbm, ⟨6, _⟩ => ⟨S1792x18944, .i32⟩
  | .hbm, ⟨7, _⟩ => ⟨S1792x18944, .i32⟩
  | .hbm, ⟨8, _⟩ => ⟨S_, .i32⟩
  | .hbm, ⟨9, _⟩ => ⟨S1792x18944, .i32⟩
  | .hbm, ⟨10, _⟩ => ⟨S1792x18944, .i1⟩
  | .hbm, ⟨11, _⟩ => ⟨S_, .i32⟩
  | .hbm, ⟨12, _⟩ => ⟨S1792x18944, .i32⟩
  | .hbm, ⟨13, _⟩ => ⟨S1792x18944, .i32⟩
  | .hbm, ⟨14, _⟩ => ⟨S1792x18944, .i32⟩
  | .hbm, ⟨15, _⟩ => ⟨S1792x18944, .bf16⟩
  | .hbm, ⟨16, _⟩ => ⟨S1x18944, .bf16⟩
  | .hbm, ⟨17, _⟩ => ⟨S1792x18944, .bf16⟩
  | .hbm, ⟨18, _⟩ => ⟨S1792x18944, .bf16⟩
  | .hbm, ⟨19, _⟩ => ⟨S2048x1792, .f32⟩
  | .hbm, ⟨20, _⟩ => ⟨S_, .i32⟩
  | .hbm, ⟨21, _⟩ => ⟨S1792x18944, .i32⟩
  | .hbm, ⟨22, _⟩ => ⟨S1792x18944, .i32⟩
  | .hbm, ⟨23, _⟩ => ⟨S_, .i32⟩
  | .hbm, ⟨24, _⟩ => ⟨S1792x18944, .i32⟩
  | .hbm, ⟨25, _⟩ => ⟨S1792x18944, .i1⟩
  | .hbm, ⟨26, _⟩ => ⟨S_, .i32⟩
  | .hbm, ⟨27, _⟩ => ⟨S1792x18944, .i32⟩
  | .hbm, ⟨28, _⟩ => ⟨S1792x18944, .i32⟩
  | .hbm, ⟨29, _⟩ => ⟨S1792x18944, .i32⟩
  | .hbm, ⟨30, _⟩ => ⟨S1792x18944, .bf16⟩
  | .hbm, ⟨31, _⟩ => ⟨S1x18944, .bf16⟩
  | .hbm, ⟨32, _⟩ => ⟨S1792x18944, .bf16⟩
  | .hbm, ⟨33, _⟩ => ⟨S1792x18944, .bf16⟩
  | .hbm, ⟨34, _⟩ => ⟨S2048x1792, .f32⟩
  | .hbm, ⟨35, _⟩ => ⟨S2048x1792x1, .f32⟩
  | .hbm, ⟨36, _⟩ => ⟨S2048x1792x1, .f32⟩
  | .hbm, ⟨37, _⟩ => ⟨S2048x1792x2, .f32⟩
  | .hbm, ⟨38, _⟩ => ⟨S2048x3584, .f32⟩
  | .hbm, ⟨39, _⟩ => ⟨S16x128x56x8x2x4, .f32⟩
  | .hbm, ⟨40, _⟩ => ⟨S16x8x4x56x2x128, .f32⟩
  | .hbm, ⟨41, _⟩ => ⟨S16x3584x128, .f32⟩
  | _, _ => ⟨S2048x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== XSide.lean ====
abbrev S2048x3584 : Shape := ⟨2, ![2048, 3584]⟩
abbrev S56x56 : Shape := ⟨2, ![56, 56]⟩
abbrev S64x64 : Shape := ⟨2, ![64, 64]⟩
abbrev S1 : Shape := ⟨1, ![1]⟩
abbrev S16x3584x128 : Shape := ⟨3, ![16, 3584, 128]⟩
abbrev S1x2048 : Shape := ⟨2, ![1, 2048]⟩
abbrev S256x3584 : Shape := ⟨2, ![256, 3584]⟩
abbrev S2x3584x128 : Shape := ⟨3, ![2, 3584, 128]⟩
abbrev S1x256 : Shape := ⟨2, ![1, 256]⟩
abbrev S64x192 : Shape := ⟨2, ![64, 192]⟩
abbrev S112x224 : Shape := ⟨2, ![112, 224]⟩
abbrev S2x4032x128 : Shape := ⟨3, ![2, 4032, 128]⟩
abbrev S56x112 : Shape := ⟨2, ![56, 112]⟩
abbrev S56x224 : Shape := ⟨2, ![56, 224]⟩
abbrev S256x128 : Shape := ⟨2, ![256, 128]⟩
abbrev S128x256 : Shape := ⟨2, ![128, 256]⟩
abbrev S128x128 : Shape := ⟨2, ![128, 128]⟩
abbrev S1x128x128 : Shape := ⟨3, ![1, 128, 128]⟩
abbrev S1x64x128 : Shape := ⟨3, ![1, 64, 128]⟩
abbrev S64x128 : Shape := ⟨2, ![64, 128]⟩
abbrev S64x256 : Shape := ⟨2, ![64, 256]⟩
abbrev S192x256 : Shape := ⟨2, ![192, 256]⟩
abbrev S1x3584x128 : Shape := ⟨3, ![1, 3584, 128]⟩
abbrev S3584x128 : Shape := ⟨2, ![3584, 128]⟩
abbrev S8x256 : Shape := ⟨2, ![8, 256]⟩
abbrev S1x56x128 : Shape := ⟨3, ![1, 56, 128]⟩
abbrev S56x128 : Shape := ⟨2, ![56, 128]⟩
abbrev S112x128 : Shape := ⟨2, ![112, 128]⟩
abbrev S112x256 : Shape := ⟨2, ![112, 256]⟩
abbrev S224x256 : Shape := ⟨2, ![224, 256]⟩
abbrev S56x256 : Shape := ⟨2, ![56, 256]⟩
abbrev S256 : Shape := ⟨1, ![256]⟩
abbrev S1x128 : Shape := ⟨2, ![1, 128]⟩
abbrev S1x4032x128 : Shape := ⟨3, ![1, 4032, 128]⟩
abbrev S4032x128 : Shape := ⟨2, ![4032, 128]⟩
abbrev S224x128 : Shape := ⟨2, ![224, 128]⟩
abbrev S1x224x128 : Shape := ⟨3, ![1, 224, 128]⟩

abbrev nBuf : Space → Nat
  | .hbm => 11
  | .vmem => 22
  | .smem => 1
  | _ => 0

abbrev bufTy : (tb : Table) → Fin (tcTables nBuf tb) → BufTy
  | .hbm, ⟨0, _⟩ => ⟨S2048x3584, .bf16⟩
  | .hbm, ⟨1, _⟩ => ⟨S56x56, .f32⟩
  | .hbm, ⟨2, _⟩ => ⟨S64x64, .f32⟩
  | .hbm, ⟨3, _⟩ => ⟨S1, .f32⟩
  | .hbm, ⟨4, _⟩ => ⟨S16x3584x128, .bf16⟩
  | .hbm, ⟨5, _⟩ => ⟨S16x3584x128, .f32⟩
  | .hbm, ⟨6, _⟩ => ⟨S16x3584x128, .i8⟩
  | .hbm, ⟨7, _⟩ => ⟨S2048x3584, .i8⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x3584, .bf16⟩
  | .local _ .vmem, ⟨1, _⟩ => ⟨S256x3584, .bf16⟩
  | .local _ .vmem, ⟨2, _⟩ => ⟨S56x56, .f32⟩
  | .local _ .vmem, ⟨3, _⟩ => ⟨S64x64, .f32⟩
  | .local _ .vmem, ⟨4, _⟩ => ⟨S2x3584x128, .bf16⟩
  | .local _ .vmem, ⟨5, _⟩ => ⟨S2x3584x128, .bf16⟩
  | .local _ .vmem, ⟨6, _⟩ => ⟨S2x3584x128, .f32⟩
  | .local _ .vmem, ⟨7, _⟩ => ⟨S2x3584x128, .f32⟩
  | .local _ .vmem, ⟨8, _⟩ => ⟨S2x3584x128, .i8⟩
  | .local _ .vmem, ⟨9, _⟩ => ⟨S2x3584x128, .i8⟩
  | .local _ .vmem, ⟨10, _⟩ => ⟨S256x3584, .i8⟩
  | .local _ .vmem, ⟨11, _⟩ => ⟨S256x3584, .i8⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S64x192, .bf16⟩
  | .local _ .vmem, ⟨19, _⟩ => ⟨S112x224, .bf16⟩
  | .local _ .vmem, ⟨20, _⟩ => ⟨S2x3584x128, .f32⟩
  | .local _ .vmem, ⟨21, _⟩ => ⟨S2x4032x128, .f32⟩
  | .local _ .smem, ⟨0, _⟩ => ⟨S1, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_198 : BitVec 32 := 0#32
  let c7_i32 : BitVec 32 := 7#32
  let v284 : BitVec 32 := Scalar.addi c0_i32_198 c7_i32
  let c1_i32 : BitVec 32 := 1#32
  ⟨c0_i32_198, v284, c1_i32⟩
def k0_off1 (k0_t1 : Fin k0_t1_loop.trips) (c0_i32_618 : BitVec 32) : Fin 3 → Nat :=
  let c0_619 : Index := 0#32
  let c0_i32_198 : BitVec 32 := 0#32
  let c1_i32 : BitVec 32 := 1#32
  let arg16 : BitVec 32 := Scf.iv c0_i32_198 c1_i32 k0_t1
  let c8_i32_617 : BitVec 32 := 8#32
  let v816 : BitVec 32 := Scalar.muli arg16 c8_i32_617
  let v817 : BitVec 32 := Scalar.addi v816 c0_i32_618
  let c64_i32 : BitVec 32 := 64#32
  let v818 : BitVec 32 := Scalar.muli v817 c64_i32
  let v819 : Index := Scalar.indexCast v818
  let c0_620 : Index := 0#32
  ![0, v819.toNat, 0]
def k0_off2 (k0_t1 : Fin k0_t1_loop.trips) (c0_i32_618 : BitVec 32) : Fin 3 → Nat :=
  let c1_622 : Index := 1#32
  let c0_i32_198 : BitVec 32 := 0#32
  let c1_i32 : BitVec 32 := 1#32
  let arg16 : BitVec 32 := Scf.iv c0_i32_198 c1_i32 k0_t1
  let c8_i32_617 : BitVec 32 := 8#32
  let v816 : BitVec 32 := Scalar.muli arg16 c8_i32_617
  let v817 : BitVec 32 := Scalar.addi v816 c0_i32_618
  let c64_i32_621 : BitVec 32 := 64#32
  let v822 : BitVec 32 := Scalar.muli v817 c64_i32_621
  let v823 : Index := Scalar.indexCast v822
  let c0_623 : Index := 0#32
  ![1, v823.toNat, 0]
def k0_off3 (k0_t1 : Fin k0_t1_loop.trips) (c0_i32_618 : BitVec 32) : Fin 2 → Nat :=
  let c0_i32_198 : BitVec 32 := 0#32
  let c1_i32 : BitVec 32 := 1#32
  let arg16 : BitVec 32 := Scf.iv c0_i32_198 c1_i32 k0_t1
  let c8_i32_617 : BitVec 32 := 8#32
  let v816 : BitVec 32 := Scalar.muli arg16 c8_i32_617
  let v817 : BitVec 32 := Scalar.addi v816 c0_i32_618
  let v832 : Index := Scalar.indexCast v817
  let c0_628 : Index := 0#32
  ![v832.toNat, 0]
@[reducible] def k0_t2_loop : Scf.Loop 32 :=
  let c0_i32_203 : BitVec 32 := 0#32
  let c8_i32 : BitVec 32 := 8#32
  let v288 : BitVec 32 := Scalar.addi c0_i32_203 c8_i32
  let c1_i32_204 : BitVec 32 := 1#32
  ⟨c0_i32_203, v288, c1_i32_204⟩
def k0_mult1 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_617 : BitVec 32 := 8#32
  let v816 : BitVec 32 := Scalar.muli arg16 c8_i32_617
  let c0_i32_618 : BitVec 32 := 0#32
  let v817 : BitVec 32 := Scalar.addi v816 c0_i32_618
  let c56_i32 : BitVec 32 := 56#32
  let v818 : BitVec 32 := Scalar.muli v817 c56_i32
  v818
def k0_off4 (k0_t2 : Fin k0_t2_loop.trips) (c0_i32_618 : BitVec 32) : Fin 3 → Nat :=
  let c0_619 : Index := 0#32
  let c0_i32_203 : BitVec 32 := 0#32
  let c1_i32_204 : BitVec 32 := 1#32
  let arg16 : BitVec 32 := Scf.iv c0_i32_203 c1_i32_204 k0_t2
  let c8_i32_617 : BitVec 32 := 8#32
  let v816 : BitVec 32 := Scalar.muli arg16 c8_i32_617
  let v817 : BitVec 32 := Scalar.addi v816 c0_i32_618
  let c56_i32 : BitVec 32 := 56#32
  let v818 : BitVec 32 := Scalar.muli v817 c56_i32
  let v819 : BitVec 32 := v818
  let v820 : Index := Scalar.indexCast v819
  let c0_620 : Index := 0#32
  ![0, v820.toNat, 0]
def k0_off5 (k0_t2 : Fin k0_t2_loop.trips) (c0_i32_618 : BitVec 32) : Fin 3 → Nat :=
  let c1_624 : Index := 1#32
  let c0_i32_203 : BitVec 32 := 0#32
  let c1_i32_204 : BitVec 32 := 1#32
  let arg16 : BitVec 32 := Scf.iv c0_i32_203 c1_i32_204 k0_t2
  let c8_i32_617 : BitVec 32 := 8#32
  let v816 : BitVec 32 := Scalar.muli arg16 c8_i32_617
  let v817 : BitVec 32 := Scalar.addi v816 c0_i32_618
  let c56_i32 : BitVec 32 := 56#32
  let v818 : BitVec 32 := Scalar.muli v817 c56_i32
  let v819 : BitVec 32 := v818
  let v842 : Index := Scalar.indexCast v819
  let c0_625 : Index := 0#32
  ![1, v842.toNat, 0]
def k0_mult2 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_635 : BitVec 32 := 8#32
  let v902 : BitVec 32 := Scalar.muli arg16 c8_i32_635
  let c1_i32_636 : BitVec 32 := 1#32
  let v903 : BitVec 32 := Scalar.addi v902 c1_i32_636
  let c56_i32_637 : BitVec 32 := 56#32
  let v904 : BitVec 32 := Scalar.muli v903 c56_i32_637
  v904
def k0_mult3 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_655 : BitVec 32 := 8#32
  let v988 : BitVec 32 := Scalar.muli arg16 c8_i32_655
  let c2_i32 : BitVec 32 := 2#32
  let v989 : BitVec 32 := Scalar.addi v988 c2_i32
  let c56_i32_656 : BitVec 32 := 56#32
  let v990 : BitVec 32 := Scalar.muli v989 c56_i32_656
  v990
def k0_mult4 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_674 : BitVec 32 := 8#32
  let v1074 : BitVec 32 := Scalar.muli arg16 c8_i32_674
  let c3_i32 : BitVec 32 := 3#32
  let v1075 : BitVec 32 := Scalar.addi v1074 c3_i32
  let c56_i32_675 : BitVec 32 := 56#32
  let v1076 : BitVec 32 := Scalar.muli v1075 c56_i32_675
  v1076
def k0_mult5 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_693 : BitVec 32 := 8#32
  let v1160 : BitVec 32 := Scalar.muli arg16 c8_i32_693
  let c4_i32 : BitVec 32 := 4#32
  let v1161 : BitVec 32 := Scalar.addi v1160 c4_i32
  let c56_i32_694 : BitVec 32 := 56#32
  let v1162 : BitVec 32 := Scalar.muli v1161 c56_i32_694
  v1162
def k0_mult6 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_712 : BitVec 32 := 8#32
  let v1246 : BitVec 32 := Scalar.muli arg16 c8_i32_712
  let c5_i32 : BitVec 32 := 5#32
  let v1247 : BitVec 32 := Scalar.addi v1246 c5_i32
  let c56_i32_713 : BitVec 32 := 56#32
  let v1248 : BitVec 32 := Scalar.muli v1247 c56_i32_713
  v1248
def k0_mult7 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_731 : BitVec 32 := 8#32
  let v1332 : BitVec 32 := Scalar.muli arg16 c8_i32_731
  let c6_i32 : BitVec 32 := 6#32
  let v1333 : BitVec 32 := Scalar.addi v1332 c6_i32
  let c56_i32_732 : BitVec 32 := 56#32
  let v1334 : BitVec 32 := Scalar.muli v1333 c56_i32_732
  v1334
def k0_mult8 (k0_t2 : Fin k0_t2_loop.trips) : BitVec 32 :=
  let c0_i32_203 : BitVec 32 := 0#32
  let c1_i32_204 : BitVec 32 := 1#32
  let arg16 : BitVec 32 := Scf.iv c0_i32_203 c1_i32_204 k0_t2
  let c8_i32_750 : BitVec 32 := 8#32
  let v1418 : BitVec 32 := Scalar.muli arg16 c8_i32_750
  let c7_i32_751 : BitVec 32 := 7#32
  let v1419 : BitVec 32 := Scalar.addi v1418 c7_i32_751
  let c56_i32_752 : BitVec 32 := 56#32
  let v1420 : BitVec 32 := Scalar.muli v1419 c56_i32_752
  v1420
@[reducible] def k0_t3_loop : Scf.Loop 32 :=
  let c0_i32_218 : BitVec 32 := 0#32
  let c16_i32 : BitVec 32 := 16#32
  let v311 : BitVec 32 := Scalar.addi c0_i32_218 c16_i32
  let c1_i32_219 : BitVec 32 := 1#32
  ⟨c0_i32_218, v311, c1_i32_219⟩
def k0_mult9 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32 : BitVec 32 := 4#32
  let v818 : BitVec 32 := Scalar.muli arg16 c4_i32
  let c0_i32_617 : BitVec 32 := 0#32
  let v819 : BitVec 32 := Scalar.addi v818 c0_i32_617
  let c56_i32 : BitVec 32 := 56#32
  let v820 : BitVec 32 := Scalar.muli v819 c56_i32
  v820
def k0_off6 (k0_t3 : Fin k0_t3_loop.trips) (c0_i32_617 : BitVec 32) : Fin 3 → Nat :=
  let c0_618 : Index := 0#32
  let c0_i32_218 : BitVec 32 := 0#32
  let c1_i32_219 : BitVec 32 := 1#32
  let arg16 : BitVec 32 := Scf.iv c0_i32_218 c1_i32_219 k0_t3
  let c4_i32 : BitVec 32 := 4#32
  let v818 : BitVec 32 := Scalar.muli arg16 c4_i32
  let v819 : BitVec 32 := Scalar.addi v818 c0_i32_617
  let c56_i32 : BitVec 32 := 56#32
  let v820 : BitVec 32 := Scalar.muli v819 c56_i32
  let v821 : BitVec 32 := v820
  let v822 : Index := Scalar.indexCast v821
  let c0_619 : Index := 0#32
  ![0, v822.toNat, 0]
def k0_off7 (k0_t3 : Fin k0_t3_loop.trips) (c0_i32_617 : BitVec 32) : Fin 2 → Nat :=
  let c0_i32_218 : BitVec 32 := 0#32
  let c1_i32_219 : BitVec 32 := 1#32
  let arg16 : BitVec 32 := Scf.iv c0_i32_218 c1_i32_219 k0_t3
  let c4_i32 : BitVec 32 := 4#32
  let v818 : BitVec 32 := Scalar.muli arg16 c4_i32
  let v819 : BitVec 32 := Scalar.addi v818 c0_i32_617
  let v836 : Index := Scalar.indexCast v819
  let c0_625 : Index := 0#32
  ![v836.toNat, 0]
def k0_mult10 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_630 : BitVec 32 := 4#32
  let v849 : BitVec 32 := Scalar.muli arg16 c4_i32_630
  let c1_i32_631 : BitVec 32 := 1#32
  let v850 : BitVec 32 := Scalar.addi v849 c1_i32_631
  let c56_i32_632 : BitVec 32 := 56#32
  let v851 : BitVec 32 := Scalar.muli v850 c56_i32_632
  v851
def k0_mult11 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_646 : BitVec 32 := 4#32
  let v880 : BitVec 32 := Scalar.muli arg16 c4_i32_646
  let c2_i32 : BitVec 32 := 2#32
  let v881 : BitVec 32 := Scalar.addi v880 c2_i32
  let c56_i32_647 : BitVec 32 := 56#32
  let v882 : BitVec 32 := Scalar.muli v881 c56_i32_647
  v882
def k0_mult12 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_661 : BitVec 32 := 4#32
  let v911 : BitVec 32 := Scalar.muli arg16 c4_i32_661
  let c3_i32 : BitVec 32 := 3#32
  let v912 : BitVec 32 := Scalar.addi v911 c3_i32
  let c56_i32_662 : BitVec 32 := 56#32
  let v913 : BitVec 32 := Scalar.muli v912 c56_i32_662
  v913
def k0_mult13 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_676 : BitVec 32 := 4#32
  let v944 : BitVec 32 := Scalar.muli arg16 c4_i32_676
  let c56_i32_677 : BitVec 32 := 56#32
  let v945 : BitVec 32 := Scalar.muli v944 c56_i32_677
  v945
def k0_off8 (k0_t3 : Fin k0_t3_loop.trips) : Fin 3 → Nat :=
  let c0_678 : Index := 0#32
  let c0_i32_218 : BitVec 32 := 0#32
  let c1_i32_219 : BitVec 32 := 1#32
  let arg16 : BitVec 32 := Scf.iv c0_i32_218 c1_i32_219 k0_t3
  let c4_i32_676 : BitVec 32 := 4#32
  let v944 : BitVec 32 := Scalar.muli arg16 c4_i32_676
  let c56_i32_677 : BitVec 32 := 56#32
  let v945 : BitVec 32 := Scalar.muli v944 c56_i32_677
  let v946 : BitVec 32 := v945
  let v947 : Index := Scalar.indexCast v946
  let c0_679 : Index := 0#32
  ![0, v947.toNat, 0]
def k0_mult14 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_680 : BitVec 32 := 4#32
  let v953 : BitVec 32 := Scalar.muli arg16 c4_i32_680
  let c0_i32_681 : BitVec 32 := 0#32
  let v954 : BitVec 32 := Scalar.addi v953 c0_i32_681
  let c56_i32_682 : BitVec 32 := 56#32
  let v955 : BitVec 32 := Scalar.muli v954 c56_i32_682
  v955
def k0_off9 (k0_t3 : Fin k0_t3_loop.trips) (c0_i32_681 : BitVec 32) : Fin 3 → Nat :=
  let c1_683 : Index := 1#32
  let c0_i32_218 : BitVec 32 := 0#32
  let c1_i32_219 : BitVec 32 := 1#32
  let arg16 : BitVec 32 := Scf.iv c0_i32_218 c1_i32_219 k0_t3
  let c4_i32_680 : BitVec 32 := 4#32
  let v953 : BitVec 32 := Scalar.muli arg16 c4_i32_680
  let v954 : BitVec 32 := Scalar.addi v953 c0_i32_681
  let c56_i32_682 : BitVec 32 := 56#32
  let v955 : BitVec 32 := Scalar.muli v954 c56_i32_682
  let v956 : BitVec 32 := v955
  let v957 : Index := Scalar.indexCast v956
  let c0_684 : Index := 0#32
  ![1, v957.toNat, 0]
def k0_mult15 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_696 : BitVec 32 := 4#32
  let v984 : BitVec 32 := Scalar.muli arg16 c4_i32_696
  let c1_i32_697 : BitVec 32 := 1#32
  let v985 : BitVec 32 := Scalar.addi v984 c1_i32_697
  let c56_i32_698 : BitVec 32 := 56#32
  let v986 : BitVec 32 := Scalar.muli v985 c56_i32_698
  v986
def k0_mult16 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_712 : BitVec 32 := 4#32
  let v1015 : BitVec 32 := Scalar.muli arg16 c4_i32_712
  let c2_i32_713 : BitVec 32 := 2#32
  let v1016 : BitVec 32 := Scalar.addi v1015 c2_i32_713
  let c56_i32_714 : BitVec 32 := 56#32
  let v1017 : BitVec 32 := Scalar.muli v1016 c56_i32_714
  v1017
def k0_mult17 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_728 : BitVec 32 := 4#32
  let v1046 : BitVec 32 := Scalar.muli arg16 c4_i32_728
  let c3_i32_729 : BitVec 32 := 3#32
  let v1047 : BitVec 32 := Scalar.addi v1046 c3_i32_729
  let c56_i32_730 : BitVec 32 := 56#32
  let v1048 : BitVec 32 := Scalar.muli v1047 c56_i32_730
  v1048
def k0_mult18 (k0_t3 : Fin k0_t3_loop.trips) : BitVec 32 :=
  let c0_i32_218 : BitVec 32 := 0#32
  let c1_i32_219 : BitVec 32 := 1#32
  let arg16 : BitVec 32 := Scf.iv c0_i32_218 c1_i32_219 k0_t3
  let c4_i32_744 : BitVec 32 := 4#32
  let v1079 : BitVec 32 := Scalar.muli arg16 c4_i32_744
  let c56_i32_745 : BitVec 32 := 56#32
  let v1080 : BitVec 32 := Scalar.muli v1079 c56_i32_745
  v1080
def k0_off10 (k0_t3 : Fin k0_t3_loop.trips) : Fin 3 → Nat :=
  let c1_746 : Index := 1#32
  let c0_i32_218 : BitVec 32 := 0#32
  let c1_i32_219 : BitVec 32 := 1#32
  let arg16 : BitVec 32 := Scf.iv c0_i32_218 c1_i32_219 k0_t3
  let c4_i32_744 : BitVec 32 := 4#32
  let v1079 : BitVec 32 := Scalar.muli arg16 c4_i32_744
  let c56_i32_745 : BitVec 32 := 56#32
  let v1080 : BitVec 32 := Scalar.muli v1079 c56_i32_745
  let v1081 : BitVec 32 := v1080
  let v1082 : Index := Scalar.indexCast v1081
  let c0_747 : Index := 0#32
  ![1, v1082.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x3584x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3584x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x3584x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== XSideIdeal.lean ====
variable {F : FTy → Type} [FloatOps F]
-- ==== Proof.Nibble.lean ====
/-
  One signed four-bit number: the two ways of reading it as an extended real. The kernel flips the sign bit of the
  number, writes it into the low bits of the bf16 pattern of 128 and subtracts 136; plain arithmetic takes the number
  as an integer. Nothing here mentions a program.
-/
module

public import Idealize.ShloMosaic.PureOps.Ideal
public import Idealize.ShloMosaic.Lib.IdealHost
public import Mathlib.Tactic.IntervalCases
public import Mathlib.Tactic.FinCases

@[expose] public section

noncomputable section

namespace Cert.Nibble

open Idealize.ShloMosaic

/-- The number four bits stand for in two's complement, as an extended real. -/
def value (n : BitVec 4) : EReal := ((n.toInt : ℝ) : EReal)

/-- A statement about four bits is sixteen statements. -/
theorem forall_four (P : BitVec 4 → Prop) (h : ∀ k : Fin 16, P (BitVec.ofFin k)) (n : BitVec 4) : P n := h n.toFin

theorem ofBits_nibble (k : Fin 16) :
    Ideal.ofBits .bf16 (0x4300#16 ||| (BitVec.ofFin k : BitVec 4).setWidth 16) = ((128 + k.val : ℝ) : EReal) := by
  fin_cases k <;> simp [Ideal.ofBits, Ideal.ieee, -EReal.coe_mul, -EReal.coe_add]
  all_goals norm_num

theorem ofBits_136 : Ideal.ofBits .bf16 17160#16 = ((136 : ℝ) : EReal) := by
  simp [Ideal.ofBits, Ideal.ieee, -EReal.coe_mul]

/-- The kernel's way: sign bit flipped, onto the pattern of 128, less 136. -/
theorem sub_136 (n : BitVec 4) :
    Ideal.ofBits .bf16 (0x4300#16 ||| (n ^^^ 8#4).setWidth 16) - Ideal.ofBits .bf16 17160#16 = value n := by
  have h (m : BitVec 4) : Ideal.ofBits .bf16 (0x4300#16 ||| m.setWidth 16) = ((128 + m.toNat : ℝ) : EReal) :=
    ofBits_nibble m.toFin
  have hz : (128 : ℤ) + ((n ^^^ 8#4).toNat : ℤ) - 136 = n.toInt := by
    revert n
    refine forall_four _ fun k => ?_
    fin_cases k <;> rfl
  rw [h, ofBits_136, value, ← EReal.coe_sub, ← hz]
  push_cast
  rfl

/-- The plain way: the four bits as a number from 0 to 15, less 16 from 8 on. -/
theorem signed_word (n : BitVec 4) :
    (if BitVec.sle 8#32 (n.setWidth 32) then n.setWidth 32 - 16#32 else n.setWidth 32).toInt = n.toInt := by
  revert n
  refine forall_four _ fun k => ?_
  fin_cases k <;> rfl

/-- The sixteen bits that the kernel makes of half `h` of a word whose nibbles it has shifted down by `4 b`. -/
theorem half_word (w : BitVec 32) (b h : Nat) (hb : b < 4) (hh : h < 2) :
    BitVec.extractLsb' (16 * h) 16 ((((w ^^^ 0x88888888#32) >>> (4 * b)) &&& 0x000F000F#32) ||| 0x43004300#32)
      = 0x4300#16 ||| (BitVec.extractLsb' (4 * (b + 4 * h)) 4 w ^^^ 8#4).setWidth 16 := by
  obtain rfl | rfl | rfl | rfl : b = 0 ∨ b = 1 ∨ b = 2 ∨ b = 3 := by omega
  all_goals obtain rfl | rfl : h = 0 ∨ h = 1 := by omega
  all_goals
    apply BitVec.eq_of_getLsbD_eq
    intro i hi
    simp only [BitVec.getLsbD_extractLsb', BitVec.getLsbD_or, BitVec.getLsbD_and, BitVec.getLsbD_ushiftRight,
      BitVec.getLsbD_xor, BitVec.getLsbD_setWidth]
    interval_cases i <;> simp

/-- A nibble of a byte. -/
theorem nibble_of_byte (w : BitVec 32) (v : BitVec 8) (n : Nat) (hn : n < 8)
    (h : ∀ q, q < 8 → w.getLsbD (8 * (n / 2) + q) = v.getLsbD q) :
    BitVec.extractLsb' (4 * n) 4 w = BitVec.extractLsb' (4 * (n % 2)) 4 v := by
  apply BitVec.eq_of_getLsbD_eq
  intro i hi
  simp only [BitVec.getLsbD_extractLsb']
  rw [← h (4 * (n % 2) + i) (by omega), show 8 * (n / 2) + (4 * (n % 2) + i) = 4 * n + i by omega]

end Cert.Nibble

end
-- ==== Proof.Weights.lean ====
/-
  The weight panel. One step of the grid decodes four blocks of packed codes into a scratch of four panels of 3584 rows,
  sixteen rows at a time. `weight` is that scratch in closed form: the signed four-bit number that a channel's nibble
  stands for, times its column's scale. `piece` says that one stored group of sixteen rows is a block of `weight`.
-/
module

public import proofs.«01_k».proof.Proof.Nibble
public import proofs.«01_k».proof.Proof.Gen.KernelIdeal
public import Idealize.ShloMosaic.Lib.BitcastFour
public import Idealize.ShloMosaic.Lib.Pointwise
public import Idealize.ShloMosaic.Lib.Pipeline.ReadBack
public import Idealize.ShloMosaic.Lib.Pipeline.Value
public import Idealize.ShloMosaic.Lib.Pipeline.ValueKit.Basic

@[expose] public section

noncomputable section

namespace Cert.KernelIdeal.MainValue

open Cert.KernelIdeal Cert.KernelIdeal.Gen Idealize.ShloMosaic

/-- The four bits that code channel `k` in column `l` of a block of packed codes: two channels to a byte, the even one low. -/
def nib (X : Vec Ideal S1792x128 .i8) (k : Fin 3584) (l : Fin 128) : BitVec 4 :=
  BitVec.extractLsb' (4 * (k.val % 2)) 4 (X (ix2 ⟨k.val / 2, by omega⟩ l) : BitVec 8)

/-- The channel that row `448 s + 112 b + 2 i + h` of a panel holds: `64 i + 8 s + 4 h + b`. -/
def chan (r : Fin 3584) : Fin 3584 :=
  ⟨64 * (r.val % 112 / 2) + 8 * (r.val / 448) + 4 * (r.val % 2) + r.val % 448 / 112, by omega⟩

/-- The four weight panels of a step, from the scales of its 512 columns and its four blocks of codes. -/
def weight (ws : Vec Ideal S1x512 .f32) (X : Fin 4 → Vec Ideal S1792x128 .i8) (j : Fin 4) (r : Fin 3584) (l : Fin 128) : EReal :=
  Nibble.value (nib (X j) (chan r) l) * ws (ix2 (0 : Fin 1) ⟨128 * j.val + l.val, by omega⟩)

/-- The same as contents of the scratch. -/
def panels (ws : Vec Ideal S1x512 .f32) (X : Fin 4 → Vec Ideal S1792x128 .i8) : Vec Ideal S4x3584x128 .bf16 :=
  fun y => weight ws X (y 0) (y 1) (y 2)

/-- A 32-bit word read as two rows of 16 bits. -/
theorem halves (Y : IVec S8x128 32) (h : S8x128.Bitcasts 32 S16x128 16) (p : Fin 16) (l : Fin 128) :
    bitcast S16x128 16 Y h (ix2 p l) = BitVec.extractLsb' (16 * (p.val % 2)) 16 (Y (ix2 ⟨p.val / 2, by omega⟩ l)) := by
  apply BitVec.eq_of_getLsbD_eq
  intro i hi
  rw [bitcast_getLsbD Y h _ i hi (by decide), BitVec.getLsbD_extractLsb']
  have hrow : S16x128.row (ix2 p l) = p.val := rfl
  have e2 : (S16x128.row (ix2 p l) * 16 + i) % 32 = 16 * (p.val % 2) + i := by rw [hrow]; omega
  have e1 : (S16x128.row (ix2 p l) * 16 + i) / 32 = p.val / 2 := by rw [hrow]; omega
  rw [e2]
  simp only [hi, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Nibble `n` of a 32-bit word of packed codes is channel `8 q + n`. -/
theorem word_nib (X : Vec Ideal S1792x128 .i8) (h : S1792x128.Bitcasts 8 S448x128 32) (q : Fin 448) (l : Fin 128) (n : ℕ) (hn : n < 8) :
    BitVec.extractLsb' (4 * n) 4 (bitcast S448x128 32 X h (ix2 q l)) = nib X ⟨8 * q.val + n, by omega⟩ l := by
  rw [Nibble.nibble_of_byte _ (X (ix2 (⟨4 * q.val + n / 2, by omega⟩ : Fin 1792) l)) n hn]
  · unfold nib
    have e1 : (8 * q.val + n) / 2 = 4 * q.val + n / 2 := by omega
    have e2 : (8 * q.val + n) % 2 = n % 2 := by omega
    simp only [e1, e2]
  · intro i hi
    have := bitcast_8_32_getLsbD_ix2 (R := 1792) (r := 448) (n := 128) X h q l (8 * (n / 2) + i) (by omega)
      ⟨4 * q.val + n / 2, by omega⟩ (by show 4 * q.val + n / 2 = _; omega)
    refine this.trans ?_
    have e : (8 * (n / 2) + i) % 8 = i := by omega
    rw [e]
    rfl

/-- The scales of a group of sixteen rows: one block row of 128 scales, repeated. -/
abbrev scales (v : Vec Ideal S1x128 .f32) : FVec Ideal S16x128 .bf16 :=
  concatenate S16x128 0
    [⟨S8x128, truncf .bf16 (broadcastTo S8x128 (shapeCast S1x128 (shapeCast S1x128 v shapeCasts_S1x128_S1x128) shapeCasts_S1x128_S1x128)
        broadcasts_S1x128_S8x128) bitsLt_bf16_f32⟩,
     ⟨S8x128, truncf .bf16 (broadcastTo S8x128 (shapeCast S1x128 (shapeCast S1x128 v shapeCasts_S1x128_S1x128) shapeCasts_S1x128_S1x128)
        broadcasts_S1x128_S8x128) bitsLt_bf16_f32⟩] concatenates_S8x128_S8x128_S16x128_d0

theorem scales_apply (v : Vec Ideal S1x128 .f32) (p : Fin 16) (l : Fin 128) : scales v (ix2 p l) = v (ix2 (0 : Fin 1) l) := by
  pointwise
  split <;> rfl

/-- Sixteen rows decoded from eight rows of words. -/
abbrev decoded (W : IVec S8x128 32) (sh : ℕ) (v : Vec Ideal S1x128 .f32) : FVec Ideal S1x16x128 .bf16 :=
  shapeCast S1x16x128 (mulf (subf (bitcastToFloat .bf16 (bitcast S16x128 16
    (ori (andi (shrui (xori W (broadcast S8x128 2290649224#32)) (broadcast S8x128 (BitVec.ofNat 32 sh))) (broadcast S8x128 983055#32))
      (broadcast S8x128 1124090624#32)) bitcasts_S8x128_w32_S16x128_w16)) (broadcast S16x128 (FloatOps.ofBits .bf16 17160#16)))
    (scales v)) shapeCasts_S16x128_S1x16x128

theorem decoded_apply (W : IVec S8x128 32) (b : ℕ) (hb : b < 4) (v : Vec Ideal S1x128 .f32) (p : Fin 16) (l : Fin 128) :
    decoded W (4 * b) v (ix3 (0 : Fin 1) p l)
      = Nibble.value (BitVec.extractLsb' (4 * (b + 4 * (p.val % 2))) 4 (W (ix2 ⟨p.val / 2, by omega⟩ l))) * v (ix2 (0 : Fin 1) l) := by
  rw [← Nibble.sub_136, ← Nibble.half_word _ b _ hb (Nat.mod_lt _ (by decide)), ← scales_apply v p l]
  have hs : (BitVec.ofNat 32 (4 * b)).toNat = 4 * b := by rw [BitVec.toNat_ofNat]; omega
  have hsh (w : BitVec 32) : IntOp.shrui .vector w (BitVec.ofNat 32 (4 * b)) = w >>> (4 * b) := by
    unfold IntOp.shrui
    rw [hs, if_pos (by omega)]
    show w >>> (BitVec.ofNat 32 (4 * b)).toNat = _
    rw [hs]
  show (shapeCast S1x16x128 _ shapeCasts_S16x128_S1x16x128 : FVec Ideal S1x16x128 .bf16) (ix3 (0 : Fin 1) p l) = _
  rw [show ∀ Z : FVec Ideal S16x128 .bf16, shapeCast S1x16x128 Z shapeCasts_S16x128_S1x16x128 (ix3 (0 : Fin 1) p l) = Z (ix2 p l) from
    fun Z => by pointwise]
  show (Ideal.ofBits .bf16 (bitcast S16x128 16 _ bitcasts_S8x128_w32_S16x128_w16 (ix2 p l)) - Ideal.ofBits .bf16 17160#16) * _ = _
  rw [halves]
  congr 5
  show (IntOp.shrui .vector _ _ &&& _) ||| _ = _
  erw [hsh]
  rfl

/-- One stored group of sixteen rows is a block of the panels. -/
theorem piece (ws : Vec Ideal S1x512 .f32) (X : Fin 4 → Vec Ideal S1792x128 .i8) (j : Fin 4) (row q sh : ℕ)
    (Z : Vec Ideal S1792x128 .i8) (hZ : Z = X j) (v : Vec Ideal S1x128 .f32)
    (hv : ∀ l, v (ix2 (0 : Fin 1) l) = ws (ix2 (0 : Fin 1) ⟨128 * j.val + l.val, by omega⟩))
    {sig : RefSig} {κ : Kind} {sp : Space} (V : View sig κ sp S448x128 .i32) (L : List (View.Piece (Elt Ideal) S448x128 .i32))
    (inb0 : ∀ a, (![0, 0] : Fin 2 → ℕ) a + S448x128.size a ≤ S448x128.size a)
    (inb8 : ∀ a, (![j.val, row, 0] : Fin 3 → ℕ) a + S1x16x128.size a ≤ S4x3584x128.size a)
    (inb11 : ∀ a : Fin 2, S8x128.size a = 0 ∨ (![q, 0] : Fin 2 → ℕ) a + (![8, 1] : Fin 2 → ℕ) a * (S8x128.size a - 1) < S448x128.size a)
    (h : q % 64 < 8 ∧ sh % 4 = 0 ∧ sh < 16 ∧ q < 448 ∧ row = 448 * (q % 8) + 112 * (sh / 4) + 16 * (q / 64))
    (x : S1x16x128.Idx) :
    decoded (V.readCov ((⟨Rect.unit (s := S448x128) ![0, 0] S448x128.size inb0, shapeCast S448x128 (bitcast S448x128 32 Z bitcasts_S1792x128_w8_S448x128_w32)
        shapeCasts_S448x128_S448x128⟩ : View.Piece (Elt Ideal) S448x128 .i32) :: L) ⟨![q, 0], S8x128.size, ![8, 1], inb11⟩) sh v x
      = panels ws X ((Rect.unit (s := S4x3584x128) ![j.val, row, 0] S1x16x128.size inb8).emb x) := by
  obtain ⟨hq, hs4, hs, hql, hrow⟩ := h
  idx_vars x
  rename' x1 => p, x2 => l
  obtain rfl : x0 = 0 := Subsingleton.elim _ _
  obtain ⟨b, rfl⟩ : ∃ b, sh = 4 * b := ⟨sh / 4, by omega⟩
  have hb4 : 4 * b / 4 = b := by omega
  rw [hb4] at hrow
  rw [decoded_apply _ b (by omega), View.readCov_eq_canon', View.canon_cons_unit_lit inb0 _ L (fun a => by fin_cases a <;> rfl)]
  have hidx : (⟨![q, 0], S8x128.size, ![8, 1], inb11⟩ : LoadRect S448x128).idx (ix2 (⟨p.val / 2, by omega⟩ : Fin 8) l)
      = ix2 (⟨q + 8 * (p.val / 2), by omega⟩ : Fin 448) l := by
    funext a
    apply Fin.ext
    match a with
    | ⟨0, _⟩ => rfl
    | ⟨1, _⟩ => show 0 + 1 * l.val = l.val; omega
  have hemb : (Rect.unit (s := S4x3584x128) ![j.val, row, 0] S1x16x128.size inb8).emb (ix3 (0 : Fin 1) p l)
      = ix3 j (⟨row + p.val, by omega⟩ : Fin 3584) l := by
    funext a
    apply Fin.ext
    match a with
    | ⟨0, _⟩ => rfl
    | ⟨1, _⟩ => show row + 1 * p.val = row + p.val; omega
    | ⟨2, _⟩ => show 0 + 1 * l.val = l.val; omega
  rw [hemb, hv]
  show Nibble.value (BitVec.extractLsb' _ 4 (shapeCast S448x128 _ shapeCasts_S448x128_S448x128 _)) * _ = weight ws X j _ l
  rw [hidx, shapeCast_self, word_nib _ _ _ _ _ (by omega), hZ]
  unfold weight
  congr 3
  apply Fin.ext
  show 8 * (q + 8 * (p.val / 2)) + (b + 4 * (p.val % 2))
    = 64 * ((row + p.val) % 112 / 2) + 8 * ((row + p.val) / 448) + 4 * ((row + p.val) % 2) + (row + p.val) % 448 / 112
  obtain ⟨a, s, hs8, rfl⟩ : ∃ a s, s < 8 ∧ q = 64 * a + s := ⟨q / 64, q % 64, hq, by omega⟩
  have ha : (64 * a + s) / 64 = a := by omega
  have hm : (64 * a + s) % 8 = s := by omega
  rw [ha, hm] at hrow
  have hp := p.isLt
  have e1 : (row + p.val) / 448 = s := by omega
  have e2 : (row + p.val) % 448 = 112 * b + 16 * a + p.val := by omega
  have e3 : (row + p.val) % 112 = 16 * a + p.val := by omega
  have e4 : (row + p.val) % 2 = p.val % 2 := by omega
  rw [e1, e2, e3, e4]
  omega

/-- A block of codes loaded whole. -/
theorem codes_whole (a : Memref sig .tc .vmem S1792x128 .i8) (h : a.IsWhole) (X : Vec Ideal S1792x128 .i8) :
    View.readAt (Elt Ideal) a.view (Rect.unit ![0, 0] S1792x128.size inb_S1792x128_S1792x128_0_0).toLoadRect (h.unread X) = X := by
  rw [View.readAt_eq_ld, h.read_unread]
  exact View.ld_unit_zero (by funext d; fin_cases d <;> rfl) _ _

/-- The scales of panel `j`, loaded from the scales of the step. -/
theorem scale_row (a : Memref sig .tc .vmem S1x512 .f32) (h : a.IsWhole) (ws : Vec Ideal S1x512 .f32) (j : Fin 4)
    (inb : ∀ d, (![0, 128 * j.val] : Fin 2 → ℕ) d + S1x128.size d ≤ S1x512.size d) (l : Fin 128) :
    View.readAt (Elt Ideal) a.view (Rect.unit (s := S1x512) ![0, 128 * j.val] S1x128.size inb).toLoadRect (h.unread ws) (ix2 (0 : Fin 1) l)
      = ws (ix2 (0 : Fin 1) ⟨128 * j.val + l.val, by omega⟩) := by
  rw [View.readAt_eq_ld, h.read_unread]
  refine congrArg ws (funext fun d => Fin.ext ?_)
  match d with
  | ⟨0, _⟩ => rfl
  | ⟨1, _⟩ => exact congrArg (128 * j.val + ·) (Nat.one_mul l.val)

end Cert.KernelIdeal.MainValue

end
-- ==== Proof.Layout.lean ====
/-
  The reference's arrangement of its two products, of the even and of the odd channels, in the order of the kernel's layout.
-/
module

public import proofs.«01_k».proof.Proof.Gen.ReferenceIdeal.Run
public import proofs.«01_k».proof.Proof.Weights
public import Idealize.ShloMosaic.Lib.Pointwise

@[expose] public section

set_option maxRecDepth 16384

noncomputable section

namespace Cert.ReferenceIdeal.MainValue

open Cert.ReferenceIdeal Cert.ReferenceIdeal.Gen Idealize.ShloMosaic Idealize.ShloMosaic.TcCoe Idealize.SL.Sem

open Cert.KernelIdeal.MainValue (chan)

/-- The channels of two products in turn, an even one and an odd one. -/
abbrev inTurn (E O : FVec Ideal S2048x1792 .f32) : FVec Ideal S2048x3584 .f32 :=
  shapeCast S2048x3584
    (concatenate S2048x1792x2 2 [⟨S2048x1792x1, broadcastInDim S2048x1792x1 ![0, 1] bcast_S2048x1792_S2048x1792x1_0_1 E⟩,
      ⟨S2048x1792x1, broadcastInDim S2048x1792x1 ![0, 1] bcast_S2048x1792_S2048x1792x1_0_1 O⟩] concatenates_S2048x1792x1_S2048x1792x1_S2048x1792x2_d2)
    shapeCasts_S2048x1792x2_S2048x3584

/-- Tokens and channels in the order of the kernel's layout. -/
abbrev laidOut (Z : FVec Ideal S2048x3584 .f32) : FVec Ideal S16x3584x128 .f32 :=
  shapeCast S16x3584x128 (transpose S16x8x4x56x2x128 [0, 3, 5, 2, 4, 1] (shapeCast S16x128x56x8x2x4 Z shapeCasts_S2048x3584_S16x128x56x8x2x4)
    transposes_S16x128x56x8x2x4_S16x8x4x56x2x128_0_3_5_2_4_1) shapeCasts_S16x8x4x56x2x128_S16x3584x128

theorem inTurn_apply (E O : FVec Ideal S2048x1792 .f32) (s : Fin 2048) (h : Fin 3584) :
    inTurn E O (ix2 s h) = (if h.val % 2 = 0 then E else O) (ix2 s (⟨h.val / 2, by omega⟩ : Fin 1792)) := by
  pointwise
  by_cases e : h.val % 2 = 0
  · rw [if_pos e, dif_pos (by omega)]
  · rw [if_neg e, dif_neg (by omega)]

/-- Row `r` of slab `t` is channel `chan r`; lane `l` is token `128 t + l`. -/
theorem laidOut_apply (Z : FVec Ideal S2048x3584 .f32) (t : Fin 16) (r : Fin 3584) (l : Fin 128) :
    laidOut Z (ix3 t r l) = Z (ix2 (⟨128 * t.val + l.val, by omega⟩ : Fin 2048) (chan r)) := by
  pointwise
  refine congrArg₂ (fun a b => Z (ix2 a b)) (Fin.ext ?_) (Fin.ext ?_)
  · show t.val * 128 + l.val = 128 * t.val + l.val
    omega
  · show r.val / 2 % 56 * 64 + r.val / 448 * 8 + r.val % 2 * 4 + r.val / 112 % 4
      = 64 * (r.val % 112 / 2) + 8 * (r.val / 448) + 4 * (r.val % 2) + r.val % 448 / 112
    omega

end Cert.ReferenceIdeal.MainValue

end
-- ==== Proof.Tile.lean ====
/-
  One tile of a step. A step adds to each of the sixteen slabs, 512 rows at a time, the product of those rows of the
  panels with a block of the step's columns of the gradient.
-/
module

public import proofs.«01_k».proof.Proof.Weights

@[expose] public section

noncomputable section

namespace Cert.KernelIdeal.MainValue

open Cert.KernelIdeal Cert.KernelIdeal.Gen Idealize.ShloMosaic

/-- The weight of row `r` of the panels in column `k` of the step. -/
def column (ws : Vec Ideal S1x512 .f32) (X : Fin 4 → Vec Ideal S1792x128 .i8) (r : Fin 3584) (k : Fin 512) : EReal :=
  weight ws X ⟨k.val / 128, by omega⟩ r ⟨k.val % 128, by omega⟩

/-- What a step leaves in the accumulator: each entry plus its row of the panels times its token's columns. -/
def total (a : Vec Ideal S16x3584x128 .f32) (ws : Vec Ideal S1x512 .f32) (X : Fin 4 → Vec Ideal S1792x128 .i8)
    (dy : Vec Ideal S2048x512 .bf16) : Vec Ideal S16x3584x128 .f32 :=
  fun y => a y + ∑ k : Fin 512, column ws X (y 1) k * dy (ix2 (⟨128 * (y 0).val + (y 2).val, by
    have h0 : (y 0).val < 16 := (y 0).isLt
    have h2 : (y 2).val < 128 := (y 2).isLt
    omega⟩ : Fin 2048) k)

/-- Rows of the four panels side by side. -/
abbrev beside (w0 w1 w2 w3 : Vec Ideal S1x512x128 .bf16) : FVec Ideal S512x512 .bf16 :=
  concatenate S512x512 1 [⟨S512x128, shapeCast S512x128 w0 shapeCasts_S1x512x128_S512x128⟩, ⟨S512x128, shapeCast S512x128 w1 shapeCasts_S1x512x128_S512x128⟩,
    ⟨S512x128, shapeCast S512x128 w2 shapeCasts_S1x512x128_S512x128⟩, ⟨S512x128, shapeCast S512x128 w3 shapeCasts_S1x512x128_S512x128⟩]
    concatenates_S512x128_S512x128_S512x128_S512x128_S512x512_d1

/-- 512 rows of the four panels against 512 tokens. -/
abbrev product (w0 w1 w2 w3 : Vec Ideal S1x512x128 .bf16) (d : FVec Ideal S512x512 .bf16) : FVec Ideal S512x512 .f32 :=
  matmul dot_S512x512_S512x512_S512x512_1_1_0_0_n_n none (beside w0 w1 w2 w3) d (constant S512x512 .f32 0#32)

theorem product_apply (w0 w1 w2 w3 : Vec Ideal S1x512x128 .bf16) (d : Vec Ideal S512x512 .bf16) (p l : Fin 512) :
    product w0 w1 w2 w3 d (ix2 p l)
      = ∑ k : Fin 512, (![w0, w1, w2, w3] ⟨k.val / 128, by omega⟩ (ix3 (0 : Fin 1) p (⟨k.val % 128, by omega⟩ : Fin 128)) : EReal) * d (ix2 l k) := by
  pointwise
  refine Finset.sum_congr rfl fun k _ => congrArg (· * d (ix2 l k)) ?_
  have hk := k.isLt
  have at_panel (j : Fin 4) (r : ℕ) (hr : r < 128) (h : k.val = 128 * j.val + r) :
      ![w0, w1, w2, w3] ⟨k.val / 128, by omega⟩ (ix3 (0 : Fin 1) p (⟨k.val % 128, by omega⟩ : Fin 128))
        = ![w0, w1, w2, w3] j (ix3 (0 : Fin 1) p ⟨r, hr⟩) := by
    have e1 : (⟨k.val / 128, by omega⟩ : Fin 4) = j := Fin.ext (by show k.val / 128 = j.val; omega)
    have e2 : (⟨k.val % 128, by omega⟩ : Fin 128) = ⟨r, hr⟩ := Fin.ext (by show k.val % 128 = r; omega)
    rw [e1, e2]
  split
  · exact (at_panel 0 _ _ (by show _ = 128 * 0 + _; omega)).symm
  · split
    · exact (at_panel 1 _ _ (by show _ = 128 * 1 + _; omega)).symm
    · split
      · exact (at_panel 2 _ _ (by show _ = 128 * 2 + _; omega)).symm
      · exact (at_panel 3 _ (by omega) (by show _ = 128 * 3 + _; omega)).symm

/-- A tile's stored value: the accumulator's rows plus 128 columns of the product. -/
abbrev summed (A : Vec Ideal S1x512x128 .f32) (M : FVec Ideal S512x512 .f32) (u : ℕ) (h : S512x512.Slices ![0, u] S512x128) :
    FVec Ideal S1x512x128 .f32 :=
  shapeCast S1x512x128 (addf (shapeCast S512x128 A shapeCasts_S1x512x128_S512x128) (extractStridedSlice S512x128 ![0, u] M h)
    : FVec Ideal S512x128 .f32) shapeCasts_S512x128_S1x512x128

theorem summed_apply (A : Vec Ideal S1x512x128 .f32) (M : FVec Ideal S512x512 .f32) (u : ℕ) (hu : u + 128 ≤ 512)
    (h : S512x512.Slices ![0, u] S512x128) (p : Fin 512) (l : Fin 128) :
    summed A M u h (ix3 (0 : Fin 1) p l) = (A (ix3 (0 : Fin 1) p l) + M (ix2 p (⟨u + l.val, by omega⟩ : Fin 512)) : EReal) := by
  pointwise

/-- One stored tile is a block of `total`. -/
theorem tile (a : Vec Ideal S16x3584x128 .f32) (ws : Vec Ideal S1x512 .f32) (X : Fin 4 → Vec Ideal S1792x128 .i8) (dy : Vec Ideal S2048x512 .bf16)
    {sig : RefSig} {κ κ' : Kind} {sp sp' : Space} (V : View sig κ sp S4x3584x128 .bf16) (L : List (View.Piece (Elt Ideal) S4x3584x128 .bf16))
    (hL : View.canon L = panels ws X) (D : Memref sig κ' sp' S2048x512 .bf16) (hD : D.IsWhole) (t R : ℕ)
    (inb0 : ∀ d, (![0, R, 0] : Fin 3 → ℕ) d + S1x512x128.size d ≤ S4x3584x128.size d)
    (inb1 : ∀ d, (![1, R, 0] : Fin 3 → ℕ) d + S1x512x128.size d ≤ S4x3584x128.size d)
    (inb2 : ∀ d, (![2, R, 0] : Fin 3 → ℕ) d + S1x512x128.size d ≤ S4x3584x128.size d)
    (inb3 : ∀ d, (![3, R, 0] : Fin 3 → ℕ) d + S1x512x128.size d ≤ S4x3584x128.size d)
    (inbd : ∀ d, (![512 * (t / 4), 0] : Fin 2 → ℕ) d + S512x512.size d ≤ S2048x512.size d)
    (inb : ∀ d, (![t, R, 0] : Fin 3 → ℕ) d + S1x512x128.size d ≤ S16x3584x128.size d)
    (hs : S512x512.Slices ![0, 128 * (t % 4)] S512x128) (A : Vec Ideal S1x512x128 .f32)
    (hA : ∀ x, A x = a ((Rect.unit (s := S16x3584x128) ![t, R, 0] S1x512x128.size inb).emb x))
    (h : R ≤ 3072 ∧ t < 16) (x : S1x512x128.Idx) :
    summed A (product
        (V.readCov L (Rect.unit (s := S4x3584x128) ![0, R, 0] S1x512x128.size inb0).toLoadRect)
        (V.readCov L (Rect.unit (s := S4x3584x128) ![1, R, 0] S1x512x128.size inb1).toLoadRect)
        (V.readCov L (Rect.unit (s := S4x3584x128) ![2, R, 0] S1x512x128.size inb2).toLoadRect)
        (V.readCov L (Rect.unit (s := S4x3584x128) ![3, R, 0] S1x512x128.size inb3).toLoadRect)
        (View.readAt (Elt Ideal) D.view (Rect.unit (s := S2048x512) ![512 * (t / 4), 0] S512x512.size inbd).toLoadRect (hD.unread dy))) (128 * (t % 4)) hs x
      = total a ws X dy ((Rect.unit (s := S16x3584x128) ![t, R, 0] S1x512x128.size inb).emb x) := by
  obtain ⟨hR, ht⟩ := h
  idx_vars x
  rename' x1 => p, x2 => l
  obtain rfl : x0 = 0 := Subsingleton.elim _ _
  have hl := l.isLt
  have hp := p.isLt
  have hemb : (Rect.unit (s := S16x3584x128) ![t, R, 0] S1x512x128.size inb).emb (ix3 (0 : Fin 1) p l)
      = ix3 (⟨t, ht⟩ : Fin 16) (⟨R + p.val, by omega⟩ : Fin 3584) l := by
    funext d
    apply Fin.ext
    match d with
    | ⟨0, _⟩ => rfl
    | ⟨1, _⟩ => show R + 1 * p.val = R + p.val; omega
    | ⟨2, _⟩ => show 0 + 1 * l.val = l.val; omega
  rw [summed_apply _ _ _ (by omega), product_apply, hA, hemb]
  refine congrArg (a _ + ·) (Finset.sum_congr rfl fun k _ => ?_)
  have hk := k.isLt
  congr 1
  · have panel (j : Fin 4) (i : ∀ d, (![j.val, R, 0] : Fin 3 → ℕ) d + S1x512x128.size d ≤ S4x3584x128.size d) (l : Fin 128) :
        V.readCov L (Rect.unit (s := S4x3584x128) ![j.val, R, 0] S1x512x128.size i).toLoadRect (ix3 (0 : Fin 1) p l)
          = weight ws X j ⟨R + p.val, by omega⟩ l := by
      rw [View.readCov_eq_canon', hL]
      show panels ws X ((Rect.unit (s := S4x3584x128) ![j.val, R, 0] S1x512x128.size i).toLoadRect.idx (ix3 (0 : Fin 1) p l)) = _
      rw [show (Rect.unit (s := S4x3584x128) ![j.val, R, 0] S1x512x128.size i).toLoadRect.idx (ix3 (0 : Fin 1) p l)
        = ix3 j (⟨R + p.val, by omega⟩ : Fin 3584) l from ?_]
      · rfl
      · funext d
        apply Fin.ext
        match d with
        | ⟨0, _⟩ => rfl
        | ⟨1, _⟩ => show R + 1 * p.val = R + p.val; omega
        | ⟨2, _⟩ => show 0 + 1 * l.val = l.val; omega
    show _ = weight ws X ⟨k.val / 128, by omega⟩ ⟨R + p.val, by omega⟩ ⟨k.val % 128, by omega⟩
    generalize (⟨k.val / 128, by omega⟩ : Fin 4) = j
    match j with
    | ⟨0, _⟩ => exact panel 0 inb0 _
    | ⟨1, _⟩ => exact panel 1 inb1 _
    | ⟨2, _⟩ => exact panel 2 inb2 _
    | ⟨3, _⟩ => exact panel 3 inb3 _
  · rw [View.readAt_eq_ld, hD.read_unread]
    refine congrArg dy (funext fun d => Fin.ext ?_)
    match d with
    | ⟨0, _⟩ => show 512 * (t / 4) + 1 * (128 * (t % 4) + l.val) = 128 * t + l.val; omega
    | ⟨1, _⟩ => show 0 + 1 * k.val = k.val; omega

end Cert.KernelIdeal.MainValue

end
-- ==== Proof.Panels.lean ====
/-
  The panels are stored whole: every one of the 896 groups of sixteen rows that a step stores is its block of `panels`.
-/
module

public import proofs.«01_k».proof.Proof.Weights
public import proofs.«01_k».proof.Proof.Gen.KernelIdeal.Frame.RunA

@[expose] public section

set_option maxRecDepth 16384
set_option maxHeartbeats 0

noncomputable section

namespace Cert.KernelIdeal.MainValue

open Cert.KernelIdeal Cert.KernelIdeal.Gen Idealize.ShloMosaic

/-- Each store into the panels is a block of `panels`. -/
theorem panels_pieces (c : Dev nD) (arg1 : Memref sig .tc .vmem S1x512 .f32) (harg1 : arg1.IsWhole)
    (arg3 : Memref sig .tc .vmem S1792x128 .i8) (harg3 : arg3.IsWhole) (arg4 : Memref sig .tc .vmem S1792x128 .i8) (harg4 : arg4.IsWhole)
    (arg5 : Memref sig .tc .vmem S1792x128 .i8) (harg5 : arg5.IsWhole) (arg6 : Memref sig .tc .vmem S1792x128 .i8) (harg6 : arg6.IsWhole)
    (arg11 : Memref sig .tc .vmem S448x128 .i32) (x0 : Vec Ideal S1x512 .f32) (x2 x3 x4 x5 : Vec Ideal S1792x128 .i8) :
    View.PiecesOf (panels x0 ![x2, x3, x4, x5])
      (kernelRun0_A.sl.HS0_896 (F := Ideal) c arg1 harg1 arg3 harg3 arg4 harg4 arg5 harg5 arg6 harg6 arg11 x0 x2 x3 x4 x5) := by
  unfold kernelRun0_A.sl.HS0_896
  iterate 224
    refine ⟨piece x0 ![x2, x3, x4, x5] (3 : Fin 4) _ _ _ _ (codes_whole arg6 harg6 x5) _ (scale_row arg1 harg1 x0 3 (by decide)) arg11.view _ _ (by decide) _ (by decide), ?_⟩
  iterate 224
    refine ⟨piece x0 ![x2, x3, x4, x5] (2 : Fin 4) _ _ _ _ (codes_whole arg5 harg5 x4) _ (scale_row arg1 harg1 x0 2 (by decide)) arg11.view _ _ (by decide) _ (by decide), ?_⟩
  iterate 224
    refine ⟨piece x0 ![x2, x3, x4, x5] (1 : Fin 4) _ _ _ _ (codes_whole arg4 harg4 x3) _ (scale_row arg1 harg1 x0 1 (by decide)) arg11.view _ _ (by decide) _ (by decide), ?_⟩
  iterate 224
    refine ⟨piece x0 ![x2, x3, x4, x5] (0 : Fin 4) _ _ _ _ (codes_whole arg3 harg3 x2) _ (scale_row arg1 harg1 x0 0 (by decide)) arg11.view _ _ (by decide) _ (by decide), ?_⟩
  exact trivial

end Cert.KernelIdeal.MainValue

end
-- ==== Proof.Step.lean ====
/-
  What one step leaves in the accumulator: `total` of what it held, in each of the three cases of the kernel's
  conditionals. The first step fills the accumulator with zeros before it adds.
-/
module

public import proofs.«01_k».proof.Proof.Tile
public import proofs.«01_k».proof.Proof.Panels
public import proofs.«01_k».proof.Proof.Gen.KernelIdeal.Frame

@[expose] public section

set_option maxRecDepth 16384
set_option maxHeartbeats 4000000

noncomputable section

namespace Cert.KernelIdeal.MainValue

open Cert.KernelIdeal Cert.KernelIdeal.Gen Idealize.ShloMosaic

section Filled

variable {Val : EltTy → Type} {s : Shape} {e : EltTy}

/-- Whether every store after the first in a list misses a rectangle. -/
def clear (B : LoadRect s) (L : List (View.Piece Val s e)) : Bool :=
  L.dropLast.all fun p => LoadRect.disj p.1 B

theorem canon_clear [∀ e, Nonempty (Val e)] (B : LoadRect s) (f : View.Piece Val s e) (j : B.shape.Idx) :
    ∀ L : List (View.Piece Val s e), (L.all fun p => LoadRect.disj p.1 B) = true → View.canon (L ++ [f]) (B.idx j) = View.canon [f] (B.idx j)
  | [], _ => rfl
  | p :: L, h => by
    rw [List.all_cons, Bool.and_eq_true] at h
    rw [List.cons_append, View.canon_cons_of_not_mem p _ (LoadRect.idx_not_mem_of_disj h.1 j)]
    exact canon_clear B f j L h.2

/-- Every store after the first is a block of `G`. -/
def Tiles (G : s.Idx → Val e) : List (View.Piece Val s e) → Prop
  | [] => True
  | [_] => True
  | p :: q :: L => (∀ x : p.1.shape.Idx, p.2 x = G (p.1.emb x)) ∧ Tiles G (q :: L)

theorem Tiles.cons {G : s.Idx → Val e} {p : View.Piece Val s e} {L : List (View.Piece Val s e)}
    (h : ∀ x : p.1.shape.Idx, p.2 x = G (p.1.emb x)) (hL : Tiles G L) : Tiles G (p :: L) := by
  cases L with
  | nil => exact trivial
  | cons q L => exact ⟨h, hL⟩

theorem Tiles.canon [∀ e, Nonempty (Val e)] {G : s.Idx → Val e} : ∀ {L : List (View.Piece Val s e)}, Tiles G L → ∀ y : s.Idx,
    (∃ p ∈ L.dropLast, y ∈ p.1.set) → View.canon L y = G y
  | [], _, _, h => by obtain ⟨p, hp, _⟩ := h; exact absurd hp List.not_mem_nil
  | [_], _, _, h => by obtain ⟨p, hp, _⟩ := h; exact absurd hp List.not_mem_nil
  | p :: q :: L, h, y, hy => by
    by_cases hm : y ∈ p.1.set
    · obtain ⟨x, rfl⟩ := p.1.exists_idx_of_mem hm
      rw [show p.1.idx x = p.1.emb x from rfl, View.canon_cons_emb]
      exact h.1 x
    · rw [View.canon_cons_of_not_mem p _ hm]
      obtain ⟨r, hr, hyr⟩ := hy
      rcases List.mem_cons.mp hr with rfl | hr
      · exact absurd hyr hm
      · exact Tiles.canon h.2 y ⟨r, hr, hyr⟩

end Filled

/-- A load that misses every store but the first, a fill of the whole accumulator, reads the fill. -/
theorem load_filled {sig : RefSig} {κ : Kind} {sp : Space} (V : View sig κ sp S16x3584x128 .f32) (L : List (View.Piece (Elt Ideal) S16x3584x128 .f32))
    (Z : Vec Ideal S16x3584x128 .f32) (inb0 : ∀ d, (![0, 0, 0] : Fin 3 → ℕ) d + S16x3584x128.size d ≤ S16x3584x128.size d)
    (r : Rect S16x3584x128) (hc : clear r.toLoadRect L = true)
    (hl : L.getLast? = some ⟨Rect.unit (s := S16x3584x128) ![0, 0, 0] S16x3584x128.size inb0, Z⟩) (x : r.shape.Idx) :
    V.readCov L r.toLoadRect x = Z (r.emb x) := by
  rw [View.readCov_eq_canon']
  show View.canon L (r.toLoadRect.idx x) = _
  rw [← List.dropLast_append_getLast? _ hl, canon_clear _ _ _ _ hc, View.canon_cons_unit_lit inb0 Z [] (fun d => by fin_cases d <;> rfl)]
  rfl

/-- A tile of the first step, whose accumulator rows are read back from the fill. -/
theorem filled_tile (Z : Vec Ideal S16x3584x128 .f32) (ws : Vec Ideal S1x512 .f32) (X : Fin 4 → Vec Ideal S1792x128 .i8) (dy : Vec Ideal S2048x512 .bf16)
    {sig : RefSig} {κ κ' κ'' : Kind} {sp sp' sp'' : Space} (V : View sig κ sp S4x3584x128 .bf16) (L : List (View.Piece (Elt Ideal) S4x3584x128 .bf16))
    (hL : View.canon L = panels ws X) (D : Memref sig κ' sp' S2048x512 .bf16) (hD : D.IsWhole)
    (U : View sig κ'' sp'' S16x3584x128 .f32) (t R : ℕ)
    (inb0 : ∀ d, (![0, R, 0] : Fin 3 → ℕ) d + S1x512x128.size d ≤ S4x3584x128.size d)
    (inb1 : ∀ d, (![1, R, 0] : Fin 3 → ℕ) d + S1x512x128.size d ≤ S4x3584x128.size d)
    (inb2 : ∀ d, (![2, R, 0] : Fin 3 → ℕ) d + S1x512x128.size d ≤ S4x3584x128.size d)
    (inb3 : ∀ d, (![3, R, 0] : Fin 3 → ℕ) d + S1x512x128.size d ≤ S4x3584x128.size d)
    (inbd : ∀ d, (![512 * (t / 4), 0] : Fin 2 → ℕ) d + S512x512.size d ≤ S2048x512.size d)
    (inb : ∀ d, (![t, R, 0] : Fin 3 → ℕ) d + S1x512x128.size d ≤ S16x3584x128.size d)
    (inbz : ∀ d, (![0, 0, 0] : Fin 3 → ℕ) d + S16x3584x128.size d ≤ S16x3584x128.size d)
    (hs : S512x512.Slices ![0, 128 * (t % 4)] S512x128)
    (h : R ≤ 3072 ∧ t < 16) (w : S1x512x128.Idx → Elt Ideal .f32) (K : List (View.Piece (Elt Ideal) S16x3584x128 .f32))
    (hw : w = summed (U.readCov K (Rect.unit (s := S16x3584x128) ![t, R, 0] S1x512x128.size inb).toLoadRect) (product
        (V.readCov L (Rect.unit (s := S4x3584x128) ![0, R, 0] S1x512x128.size inb0).toLoadRect)
        (V.readCov L (Rect.unit (s := S4x3584x128) ![1, R, 0] S1x512x128.size inb1).toLoadRect)
        (V.readCov L (Rect.unit (s := S4x3584x128) ![2, R, 0] S1x512x128.size inb2).toLoadRect)
        (V.readCov L (Rect.unit (s := S4x3584x128) ![3, R, 0] S1x512x128.size inb3).toLoadRect)
        (View.readAt (Elt Ideal) D.view (Rect.unit (s := S2048x512) ![512 * (t / 4), 0] S512x512.size inbd).toLoadRect (hD.unread dy)))
        (128 * (t % 4)) hs)
    (hc : clear (Rect.unit (s := S16x3584x128) ![t, R, 0] S1x512x128.size inb).toLoadRect K = true)
    (hl : K.getLast? = some ⟨Rect.unit (s := S16x3584x128) ![0, 0, 0] S16x3584x128.size inbz, Z⟩)
    (rest : Tiles (total Z ws X dy) K) :
    Tiles (total Z ws X dy) (⟨Rect.unit (s := S16x3584x128) ![t, R, 0] S1x512x128.size inb, w⟩ :: K) := by
  refine Tiles.cons (fun x => ?_) rest
  subst hw
  exact tile Z ws X dy V L hL D hD t R inb0 inb1 inb2 inb3 inbd inb hs _ (load_filled U K Z inbz _ hc hl) h x

/-- A tile's rows of the accumulator, loaded from what the point before left. -/
theorem load_carried (a : Memref sig .tc .vmem S16x3584x128 .f32) (ha : a.IsWhole) (xs : Vec Ideal S16x3584x128 .f32) (t R : ℕ)
    (inb : ∀ d, (![t, R, 0] : Fin 3 → ℕ) d + S1x512x128.size d ≤ S16x3584x128.size d) (x : S1x512x128.Idx) :
    View.readAt (Elt Ideal) a.view (Rect.unit (s := S16x3584x128) ![t, R, 0] S1x512x128.size inb).toLoadRect (ha.unread xs) x
      = xs ((Rect.unit (s := S16x3584x128) ![t, R, 0] S1x512x128.size inb).emb x) := by
  rw [View.readAt_eq_ld, ha.read_unread]
  rfl

variable (c : Dev nD) (i : grid0.Coords) (arg1 : Memref sig .tc .vmem S1x512 .f32) (harg1 : arg1.IsWhole)
  (arg2 : Memref sig .tc .vmem S2048x512 .bf16) (harg2 : arg2.IsWhole) (arg3 : Memref sig .tc .vmem S1792x128 .i8) (harg3 : arg3.IsWhole)
  (arg4 : Memref sig .tc .vmem S1792x128 .i8) (harg4 : arg4.IsWhole) (arg5 : Memref sig .tc .vmem S1792x128 .i8) (harg5 : arg5.IsWhole)
  (arg6 : Memref sig .tc .vmem S1792x128 .i8) (harg6 : arg6.IsWhole) (arg8 : Memref sig .tc .vmem S4x3584x128 .bf16) (harg8 : arg8.IsWhole)
  (arg9 : Memref sig .tc .vmem S16x3584x128 .f32) (harg9 : arg9.IsWhole) (arg11 : Memref sig .tc .vmem S448x128 .i32) (harg11 : arg11.IsWhole)
  (x0 : Vec Ideal S1x512 .f32) (x1 : Vec Ideal S2048x512 .bf16) (x2 x3 x4 x5 : Vec Ideal S1792x128 .i8)
  (xs1 : Vec Ideal S16x3584x128 .f32) (fw0 : HbBuf0 (F := Ideal) c hbM0_0)

/-- The panels that a step loads are `panels`. -/
theorem canon_panels :
    View.canon (kernelRun0_A.sl.HS0_896 (F := Ideal) c arg1 harg1 arg3 harg3 arg4 harg4 arg5 harg5 arg6 harg6 arg11 x0 x2 x3 x4 x5)
      = panels x0 ![x2, x3, x4, x5] :=
  funext fun y => View.canon_apply_of_pieces _ _ (panels_pieces c arg1 harg1 arg3 harg3 arg4 harg4 arg5 harg5 arg6 harg6 arg11 x0 x2 x3 x4 x5).mem y
    (View.cover_of_tiledL (s := S4x3584x128) _ S1x16x128.size (by sl_kernel_rfl) y)

/-- The stores of a step that is not the first. -/
theorem carried_pieces (hc0 : ¬cond0_0 i) (hc1 : ¬cond0_1 i) :
    View.PiecesOf (total xs1 x0 ![x2, x3, x4, x5] x1)
      (kernelRun0_B (F := Ideal) c i arg1 harg1 arg2 harg2 arg3 harg3 arg4 harg4 arg5 harg5 arg6 harg6 arg8 harg8 arg9 harg9 arg11 harg11 hc0 hc1
        x0 x1 x2 x3 x4 x5 xs1 fw0).1 := by
  have hL := canon_panels c arg1 harg1 arg3 harg3 arg4 harg4 arg5 harg5 arg6 harg6 arg11 x0 x2 x3 x4 x5
  change View.canon (kernelRun0_B.sl.HS0_896 (F := Ideal) c arg1 harg1 arg3 harg3 arg4 harg4 arg5 harg5 arg6 harg6 arg11 x0 x2 x3 x4 x5) = _ at hL
  unfold kernelRun0_B
  dsimp only
  iterate 112
    refine ⟨fun x => Eq.trans ?_ (tile xs1 x0 ![x2, x3, x4, x5] x1 arg8.view _ hL arg2 harg2 _ _ (by decide) (by decide) (by decide) (by decide)
      (by decide) (by decide) (by decide) _ (load_carried arg9 harg9 xs1 _ _ (by decide)) (by decide) x), ?_⟩
    · exact rfl
  exact trivial

/-- The stores of the first step. -/
theorem filled_pieces (hc0 : cond0_0 i) (hc1 : ¬cond0_1 i) :
    Tiles (total (k0_pay3 (F := Ideal)) x0 ![x2, x3, x4, x5] x1)
      (kernelRun0_A (F := Ideal) c i arg1 harg1 arg2 harg2 arg3 harg3 arg4 harg4 arg5 harg5 arg6 harg6 arg8 harg8 arg9 harg9 arg11 harg11 hc0 hc1
        x0 x1 x2 x3 x4 x5 fw0).1 := by
  have hL := canon_panels c arg1 harg1 arg3 harg3 arg4 harg4 arg5 harg5 arg6 harg6 arg11 x0 x2 x3 x4 x5
  unfold kernelRun0_A
  dsimp only
  iterate 112
    refine filled_tile (k0_pay3 (F := Ideal)) x0 ![x2, x3, x4, x5] x1 arg8.view _ hL arg2 harg2 arg9.view _ _ (by decide) (by decide) (by decide) (by decide)
      (by decide) (by decide) (by decide) (by decide) (by decide) _ _ ?_ (by sl_kernel_rfl) (by sl_kernel_rfl) ?_
    · exact rfl
  exact trivial

end Cert.KernelIdeal.MainValue

end
-- ==== Proof.Fold.lean ====
/-
  What the launch leaves in its result: each step's accumulator by the step's case, then the sum over the 37 steps by
  induction on the step, then the copy of the accumulator that the last step makes.
-/
module

public import proofs.«01_k».proof.Proof.Step
public import Idealize.ShloMosaic.Lib.Pointwise
public import Idealize.ShloMosaic.Lib.Claim

@[expose] public section

set_option maxRecDepth 16384

noncomputable section

namespace Cert.KernelIdeal.MainValue

open Cert.KernelIdeal Cert.KernelIdeal.Gen Idealize.ShloMosaic Idealize.ShloMosaic.TcCoe Idealize.SL.Sem

section Cases

variable (c : Dev nD) (i : grid0.Coords) (arg1 : Memref sig .tc .vmem S1x512 .f32) (harg1 : arg1.IsWhole)
  (arg2 : Memref sig .tc .vmem S2048x512 .bf16) (harg2 : arg2.IsWhole) (arg3 : Memref sig .tc .vmem S1792x128 .i8) (harg3 : arg3.IsWhole)
  (arg4 : Memref sig .tc .vmem S1792x128 .i8) (harg4 : arg4.IsWhole) (arg5 : Memref sig .tc .vmem S1792x128 .i8) (harg5 : arg5.IsWhole)
  (arg6 : Memref sig .tc .vmem S1792x128 .i8) (harg6 : arg6.IsWhole) (arg8 : Memref sig .tc .vmem S4x3584x128 .bf16) (harg8 : arg8.IsWhole)
  (arg9 : Memref sig .tc .vmem S16x3584x128 .f32) (harg9 : arg9.IsWhole) (arg11 : Memref sig .tc .vmem S448x128 .i32) (harg11 : arg11.IsWhole)
  (x0 : Vec Ideal S1x512 .f32) (x1 : Vec Ideal S2048x512 .bf16) (x2 x3 x4 x5 : Vec Ideal S1792x128 .i8)
  (xs1 : Vec Ideal S16x3584x128 .f32) (fw0 : HbBuf0 (F := Ideal) c hbM0_0)

/-- The first step leaves the total over zeros. -/
theorem sout_A (hc0 : cond0_0 i) (hc1 : ¬cond0_1 i) :
    sout0_A_1 (F := Ideal) c i arg1 harg1 arg2 harg2 arg3 harg3 arg4 harg4 arg5 harg5 arg6 harg6 arg8 harg8 arg9 harg9 arg11 harg11 hc0 hc1
      x0 x1 x2 x3 x4 x5 fw0 = total (k0_pay3 (F := Ideal)) x0 ![x2, x3, x4, x5] x1 := by
  unfold sout0_A_1
  rw [View.read_writes_junk_eq_canon]
  exact funext fun y => (filled_pieces c i arg1 harg1 arg2 harg2 arg3 harg3 arg4 harg4 arg5 harg5 arg6 harg6 arg8 harg8 arg9 harg9 arg11 harg11
    x0 x1 x2 x3 x4 x5 fw0 hc0 hc1).canon y (View.cover_of_tiledL (s := S16x3584x128) _ S1x512x128.size (by sl_kernel_rfl) y)

/-- The pieces of a step after the first, read over anything, are its total. -/
theorem canon_B (hc0 : ¬cond0_0 i) (hc1 : ¬cond0_1 i) :
    View.canon (kernelRun0_B (F := Ideal) c i arg1 harg1 arg2 harg2 arg3 harg3 arg4 harg4 arg5 harg5 arg6 harg6 arg8 harg8 arg9 harg9 arg11 harg11 hc0 hc1
      x0 x1 x2 x3 x4 x5 xs1 fw0).1 = total xs1 x0 ![x2, x3, x4, x5] x1 :=
  funext fun y => View.canon_apply_of_pieces _ _ (carried_pieces c i arg1 harg1 arg2 harg2 arg3 harg3 arg4 harg4 arg5 harg5 arg6 harg6 arg8 harg8
    arg9 harg9 arg11 harg11 x0 x1 x2 x3 x4 x5 xs1 fw0 hc0 hc1).mem y
    (scover0_B_1 c i arg1 harg1 arg2 harg2 arg3 harg3 arg4 harg4 arg5 harg5 arg6 harg6 arg8 harg8 arg9 harg9 arg11 harg11 hc0 hc1
      x0 x1 x2 x3 x4 x5 xs1 fw0 y)

/-- A step after the first leaves the total over what it found. -/
theorem sout_B (hc0 : ¬cond0_0 i) (hc1 : ¬cond0_1 i) :
    sout0_B_1 (F := Ideal) c i arg1 harg1 arg2 harg2 arg3 harg3 arg4 harg4 arg5 harg5 arg6 harg6 arg8 harg8 arg9 harg9 arg11 harg11 hc0 hc1
      x0 x1 x2 x3 x4 x5 xs1 fw0 = total xs1 x0 ![x2, x3, x4, x5] x1 := by
  unfold sout0_B_1
  rw [View.read_writes_junk_eq_canon, canon_B]

include harg8 harg11 fw0 in
/-- The stores of the last step are those of the steps before it. -/
theorem canon_C (j : grid0.Coords) (hj0 : ¬cond0_0 j) (hj1 : ¬cond0_1 j) :
    View.canon (kernelRun0_C.sl.HS1_112 (F := Ideal) c arg1 harg1 arg2 harg2 arg3 harg3 arg4 harg4 arg5 harg5 arg6 harg6 arg8 arg9 harg9 arg11
      x0 x1 x2 x3 x4 x5 xs1) = total xs1 x0 ![x2, x3, x4, x5] x1 := by
  rw [← canon_B c j arg1 harg1 arg2 harg2 arg3 harg3 arg4 harg4 arg5 harg5 arg6 harg6 arg8 harg8 arg9 harg9 arg11 harg11 x0 x1 x2 x3 x4 x5 xs1 fw0
    hj0 hj1]
  unfold kernelRun0_B
  exact rfl

/-- The last step leaves the total in the result. -/
theorem hbw_C (hc0 : ¬cond0_0 i) (hc1 : cond0_1 i) (j : grid0.Coords) (hj0 : ¬cond0_0 j) (hj1 : ¬cond0_1 j) :
    hbw0_C_0 (F := Ideal) c i arg1 harg1 arg2 harg2 arg3 harg3 arg4 harg4 arg5 harg5 arg6 harg6 arg8 harg8 arg9 harg9 arg11 harg11 hc0 hc1
      x0 x1 x2 x3 x4 x5 xs1 fw0 = (total xs1 x0 ![x2, x3, x4, x5] x1 : Vec Ideal S16x3584x128 .f32) := by
  unfold hbw0_C_0
  have cover := scover0_C_1 c i arg1 harg1 arg2 harg2 arg3 harg3 arg4 harg4 arg5 harg5 arg6 harg6 arg8 harg8 arg9 harg9 arg11 harg11 hc0 hc1
      x0 x1 x2 x3 x4 x5 xs1 fw0
  unfold kernelRun0_C at cover ⊢
  dsimp only at cover ⊢
  refine (View.write_whole_univ main_v1 _ _).trans ?_
  unfold kernelRun0_C.sl.dma2484
  show View.read (Elt Ideal) arg9.view _ = _
  rw [View.read_writes_eq_canon _ _ _ cover]
  exact canon_C c arg1 harg1 arg2 harg2 arg3 harg3 arg4 harg4 arg5 harg5 arg6 harg6 arg8 harg8 arg9 harg9 arg11 harg11 x0 x1 x2 x3 x4 x5 xs1 fw0
    j hj0 hj1

end Cases

/-! ## The blocks of the arguments -/

section Blocks

variable (m : (ℓ : Loc nD τ sig) → Buf (Elt Ideal) ℓ)

/-- The arguments as arrays. -/
abbrev gradient (c : Dev nD) : Vec Ideal S2048x18944 .bf16 := m ((c : Thread nD τ).loc main_arg0)
abbrev codes (c : Dev nD) : Vec Ideal S1792x18944 .i8 := m ((c : Thread nD τ).loc main_arg1)
abbrev colScales (c : Dev nD) : Vec Ideal S18944 .f32 := m ((c : Thread nD τ).loc main_arg2)

theorem lt_37 (t : Fin cfg0.N) : t.val < 37 := Nat.lt_of_lt_of_eq t.isLt N_0

theorem index_0 : ∀ t : Fin cfg0.N, win0_0.index t 0 = 0 ∧ win0_0.index t 1 = t.val :=
  (by decide +kernel : ∀ t : Fin grid0.N, win0_0.index t 0 = 0 ∧ win0_0.index t 1 = t.val)
theorem index_1 : ∀ t : Fin cfg0.N, win0_1.index t 0 = 0 ∧ win0_1.index t 1 = t.val :=
  (by decide +kernel : ∀ t : Fin grid0.N, win0_1.index t 0 = 0 ∧ win0_1.index t 1 = t.val)
theorem index_2 : ∀ t : Fin cfg0.N, win0_2.index t 0 = 0 ∧ win0_2.index t 1 = 4 * t.val :=
  (by decide +kernel : ∀ t : Fin grid0.N, win0_2.index t 0 = 0 ∧ win0_2.index t 1 = 4 * t.val)
theorem index_3 : ∀ t : Fin cfg0.N, win0_3.index t 0 = 0 ∧ win0_3.index t 1 = 4 * t.val + 1 :=
  (by decide +kernel : ∀ t : Fin grid0.N, win0_3.index t 0 = 0 ∧ win0_3.index t 1 = 4 * t.val + 1)
theorem index_4 : ∀ t : Fin cfg0.N, win0_4.index t 0 = 0 ∧ win0_4.index t 1 = 4 * t.val + 2 :=
  (by decide +kernel : ∀ t : Fin grid0.N, win0_4.index t 0 = 0 ∧ win0_4.index t 1 = 4 * t.val + 2)
theorem index_5 : ∀ t : Fin cfg0.N, win0_5.index t 0 = 0 ∧ win0_5.index t 1 = 4 * t.val + 3 :=
  (by decide +kernel : ∀ t : Fin grid0.N, win0_5.index t 0 = 0 ∧ win0_5.index t 1 = 4 * t.val + 3)

/-- A step's scales are its 512 columns of the column scales. -/
theorem block_0 (c : Dev nD) (t : Fin cfg0.N) (k : Fin 512) :
    (iblk m c 0 t : Vec Ideal S1x512 .f32) (ix2 (0 : Fin 1) k) = colScales m c (ix1 ⟨512 * t.val + k.val, by have := lt_37 t; omega⟩) := by
  have ht := lt_37 t
  have e : (V m c main_v0 : Vec Ideal S1x18944 .f32) = shapeCast S1x18944 (colScales m c) shapeCasts_S18944_S1x18944 := by
    entry_read
    rfl
  unfold iblk
  rw [View.read_apply]
  show (V m c main_v0 : Vec Ideal S1x18944 .f32) _ = _
  rw [e]
  refine (congrArg (shapeCast S1x18944 (colScales m c) shapeCasts_S18944_S1x18944) (a₂ := ix2 (0 : Fin 1) ⟨512 * t.val + k.val, by omega⟩) ?_).trans ?_
  · funext a
    apply Fin.ext
    match a with
    | ⟨0, _⟩ => show win0_0.index t 0 * 1 + 1 * 0 = 0; rw [(index_0 t).1]
    | ⟨1, _⟩ => show win0_0.index t 1 * 512 + 1 * k.val = 512 * t.val + k.val; rw [(index_0 t).2]; omega
  · pointwise

/-- A step's gradient is its 512 columns of the gradient. -/
theorem block_1 (c : Dev nD) (t : Fin cfg0.N) (s : Fin 2048) (k : Fin 512) :
    (iblk m c 1 t : Vec Ideal S2048x512 .bf16) (ix2 s k) = gradient m c (ix2 s ⟨512 * t.val + k.val, by have := lt_37 t; omega⟩) := by
  unfold iblk
  rw [View.read_apply]
  show (V m c main_arg0 : Vec Ideal S2048x18944 .bf16) _ = _
  rw [V_main_arg0]
  refine congrArg (gradient m c) ?_
  funext a
  apply Fin.ext
  match a with
  | ⟨0, _⟩ => show win0_1.index t 0 * 2048 + 1 * s.val = s.val; rw [(index_1 t).1]; omega
  | ⟨1, _⟩ => show win0_1.index t 1 * 512 + 1 * k.val = 512 * t.val + k.val; rw [(index_1 t).2]; omega

/-- A step's four blocks of codes, 128 columns each, lie side by side. -/
theorem block_2 (c : Dev nD) (t : Fin cfg0.N) (j : Fin 4) (r : Fin 1792) (l : Fin 128) :
    (![(iblk m c 2 t : Vec Ideal S1792x128 .i8), iblk m c 3 t, iblk m c 4 t, iblk m c 5 t] j) (ix2 r l)
      = codes m c (ix2 r ⟨512 * t.val + (128 * j.val + l.val), by have := lt_37 t; omega⟩) := by
  fin_cases j
  · show (iblk m c 2 t : Vec Ideal S1792x128 .i8) (ix2 r l) = _
    unfold iblk
    rw [View.read_apply]
    show (V m c main_arg1 : Vec Ideal S1792x18944 .i8) _ = _
    rw [V_main_arg1]
    refine congrArg (codes m c) ?_
    funext a
    apply Fin.ext
    match a with
    | ⟨0, _⟩ => show win0_2.index t 0 * 1792 + 1 * r.val = r.val; rw [(index_2 t).1]; omega
    | ⟨1, _⟩ => show win0_2.index t 1 * 128 + 1 * l.val = 512 * t.val + (128 * 0 + l.val); rw [(index_2 t).2]; omega
  · show (iblk m c 3 t : Vec Ideal S1792x128 .i8) (ix2 r l) = _
    unfold iblk
    rw [View.read_apply]
    show (V m c main_arg1 : Vec Ideal S1792x18944 .i8) _ = _
    rw [V_main_arg1]
    refine congrArg (codes m c) ?_
    funext a
    apply Fin.ext
    match a with
    | ⟨0, _⟩ => show win0_3.index t 0 * 1792 + 1 * r.val = r.val; rw [(index_3 t).1]; omega
    | ⟨1, _⟩ => show win0_3.index t 1 * 128 + 1 * l.val = 512 * t.val + (128 * 1 + l.val); rw [(index_3 t).2]; omega
  · show (iblk m c 4 t : Vec Ideal S1792x128 .i8) (ix2 r l) = _
    unfold iblk
    rw [View.read_apply]
    show (V m c main_arg1 : Vec Ideal S1792x18944 .i8) _ = _
    rw [V_main_arg1]
    refine congrArg (codes m c) ?_
    funext a
    apply Fin.ext
    match a with
    | ⟨0, _⟩ => show win0_4.index t 0 * 1792 + 1 * r.val = r.val; rw [(index_4 t).1]; omega
    | ⟨1, _⟩ => show win0_4.index t 1 * 128 + 1 * l.val = 512 * t.val + (128 * 2 + l.val); rw [(index_4 t).2]; omega
  · show (iblk m c 5 t : Vec Ideal S1792x128 .i8) (ix2 r l) = _
    unfold iblk
    rw [View.read_apply]
    show (V m c main_arg1 : Vec Ideal S1792x18944 .i8) _ = _
    rw [V_main_arg1]
    refine congrArg (codes m c) ?_
    funext a
    apply Fin.ext
    match a with
    | ⟨0, _⟩ => show win0_5.index t 0 * 1792 + 1 * r.val = r.val; rw [(index_5 t).1]; omega
    | ⟨1, _⟩ => show win0_5.index t 1 * 128 + 1 * l.val = 512 * t.val + (128 * 3 + l.val); rw [(index_5 t).2]; omega

end Blocks

/-! ## The sum over the steps -/

section Sum

/-- The code of channel `h` in column `k`: the low four bits of its row of bytes if `h` is even, else the high four. -/
def code (W : Vec Ideal S1792x18944 .i8) (h : Fin 3584) (k : Fin 18944) : BitVec 4 :=
  BitVec.extractLsb' (4 * (h.val % 2)) 4 (W (ix2 (⟨h.val / 2, by omega⟩ : Fin 1792) k) : BitVec 8)

/-- What column `k` adds to the product of token `s` and channel `h`. -/
def part (D : Vec Ideal S2048x18944 .bf16) (W : Vec Ideal S1792x18944 .i8) (q : Vec Ideal S18944 .f32) (s : Fin 2048) (h : Fin 3584)
    (k : Fin 18944) : EReal :=
  Nibble.value (code W h k) * q (ix1 k) * D (ix2 s k)

/-- The same for any number, zero past the last column. -/
def partAt (D : Vec Ideal S2048x18944 .bf16) (W : Vec Ideal S1792x18944 .i8) (q : Vec Ideal S18944 .f32) (s : Fin 2048) (h : Fin 3584)
    (k : ℕ) : EReal :=
  if hk : k < 18944 then part D W q s h ⟨k, hk⟩ else 0

/-- The token of an entry of the result. -/
def token (y : S16x3584x128.Idx) : Fin 2048 :=
  ⟨128 * (y 0).val + (y 2).val, by
    have h0 : (y 0).val < 16 := (y 0).isLt
    have h2 : (y 2).val < 128 := (y 2).isLt
    omega⟩

/-- The product, in the order in which the kernel lays it out. -/
def result (D : Vec Ideal S2048x18944 .bf16) (W : Vec Ideal S1792x18944 .i8) (q : Vec Ideal S18944 .f32) : Vec Ideal S16x3584x128 .f32 :=
  fun y => ∑ k : Fin 18944, part D W q (token y) (chan (y 1)) k

variable (m : (ℓ : Loc nD τ sig) → Buf (Elt Ideal) ℓ)

/-- A step adds its 512 columns. -/
theorem total_eq (c : Dev nD) (t : Fin cfg0.N) (a : Vec Ideal S16x3584x128 .f32) (y : S16x3584x128.Idx) :
    total a (iblk m c 0 t) ![iblk m c 2 t, iblk m c 3 t, iblk m c 4 t, iblk m c 5 t] (iblk m c 1 t) y
      = a y + ∑ k ∈ Finset.range 512, partAt (gradient m c) (codes m c) (colScales m c) (token y) (chan (y 1)) (512 * t.val + k) := by
  have ht := lt_37 t
  unfold total
  rw [Finset.sum_range]
  refine congrArg (a y + ·) (Finset.sum_congr rfl fun k _ => ?_)
  have hk := k.isLt
  unfold partAt part column weight nib code
  rw [dif_pos (by omega), block_0 m c t, block_1 m c t, block_2 m c t]
  have ek : (⟨512 * t.val + (128 * (⟨k.val / 128, by omega⟩ : Fin 4).val + (⟨k.val % 128, by omega⟩ : Fin 128).val), by
      show 512 * t.val + (128 * (k.val / 128) + k.val % 128) < 18944; omega⟩ : Fin 18944) = ⟨512 * t.val + k.val, by omega⟩ :=
    Fin.ext (by show 512 * t.val + (128 * (k.val / 128) + k.val % 128) = 512 * t.val + k.val; omega)
  rw [ek]
  rfl

/-- After step `n` the accumulator holds the sum over the first `512 (n + 1)` columns. -/
theorem outs_eq (c : Dev nD) : ∀ (n : ℕ) (h : n < cfg0.N), n < 36 → ∀ y : S16x3584x128.Idx, (outsAt0 m c n h).1 y
    = ∑ k ∈ Finset.range (512 * (n + 1)), partAt (gradient m c) (codes m c) (colScales m c) (token y) (chan (y 1)) k
  | 0, h, _, y => by
    rw [outsAt0_A m c ⟨0, h⟩ rfl (by dsimp only; omega)]
    dsimp only
    rw [sout_A]
    refine (total_eq m c ⟨0, h⟩ _ y).trans ?_
    have hz : k0_pay3 (F := Ideal) y = (0 : EReal) := Ideal.ofBits_zero_f32
    rw [hz, zero_add]
    refine Finset.sum_congr rfl fun k _ => congrArg _ ?_
    show 512 * 0 + k = k
    omega
  | n + 1, h, hn, y => by
    have h0 : ¬(⟨n + 1, h⟩ : Fin cfg0.N).val % 37 = 0 := by dsimp only; omega
    have h1 : ¬(⟨n + 1, h⟩ : Fin cfg0.N).val % 37 = 36 := by dsimp only; omega
    rw [outsAt0_B m c ⟨n + 1, h⟩ h0 h1]
    dsimp only
    rw [sout_B]
    refine (total_eq m c ⟨n + 1, h⟩ _ y).trans ?_
    show (outsAt0 m c n _).1 y + _ = _
    rw [outs_eq c n _ (by omega) y, ← Finset.sum_range_add, show 512 * (n + 1) + 512 = 512 * (n + 1 + 1) by omega]

/-- The result the last step leaves. -/
theorem final_eq (c : Dev nD) : (hbG0 m c main_v1 : Vec Ideal S16x3584x128 .f32) = result (gradient m c) (codes m c) (colScales m c) := by
  have e : (hbG0 m c main_v1 : Vec Ideal S16x3584x128 .f32) = (outsAt0 m c 36 (by rw [show cfg0.N = 37 from N_0]; decide)).2 := by
    unfold hbG0
    exact Function.update_self _ _ _
  have hN : cfg0.N = 37 := N_0
  have h36 : 36 < cfg0.N := by rw [hN]; decide
  have h1 : 1 < cfg0.N := by rw [hN]; decide
  rw [e, outsAt0_C m c ⟨36, h36⟩ (by dsimp only; omega) rfl]
  dsimp only
  rw [hbw_C (j := grid0.coords ⟨1, h1⟩) (hj0 := fun h => absurd ((hcond0_0 ⟨1, h1⟩).mp h) (by dsimp only; omega))
    (hj1 := fun h => absurd ((hcond0_1 ⟨1, h1⟩).mp h) (by dsimp only; omega))]
  funext y
  refine (total_eq m c ⟨36, h36⟩ _ y).trans ?_
  show (outsAt0 m c 35 _).1 y + _ = _
  rw [outs_eq m c 35 _ (by omega) y, ← Finset.sum_range_add]
  show ∑ k ∈ Finset.range 18944, _ = _
  rw [Finset.sum_range]
  refine Finset.sum_congr rfl fun k _ => ?_
  unfold partAt
  rw [dif_pos k.isLt]

end Sum

end Cert.KernelIdeal.MainValue

end
-- ==== Proof.Plain.lean ====
/-
  What the reference computes: the product `result`, entry by entry. The codes are read off their bytes, the two
  products of even and odd channels are put together, and the channels come in the order of the kernel's layout.
-/
module

public import proofs.«01_k».proof.Proof.Gen.ReferenceIdeal.Run
public import proofs.«01_k».proof.Proof.Layout
public import proofs.«01_k».proof.Proof.Fold

@[expose] public section

set_option maxRecDepth 16384

noncomputable section

namespace Cert.ReferenceIdeal.MainValue

open Cert.ReferenceIdeal Cert.ReferenceIdeal.Gen Idealize.ShloMosaic Idealize.ShloMosaic.TcCoe Idealize.SL.Sem

/-- A number at every place of the codes. -/
abbrev every (k : BitVec 32) : IVec S1792x18944 32 := broadcastInDim S1792x18944 ![] bcast_S_S1792x18944 (constantI S_ 32 k)

/-- The codes of the even and of the odd channels, not yet signed. -/
abbrev low (W : Vec Ideal S1792x18944 .i8) : IVec S1792x18944 32 := andi (extui 32 W natLt_8_32) (every 15#32)
abbrev high (W : Vec Ideal S1792x18944 .i8) : IVec S1792x18944 32 := Host.shrsi (extui 32 W natLt_8_32) (every 4#32)

/-- Their weights. -/
abbrev weights (N : IVec S1792x18944 32) (q : Vec Ideal S18944 .f32) : FVec Ideal S1792x18944 .bf16 :=
  mulf (sitofp .bf16 (select (cmpi .sge N (every 8#32)) (subi N (every 16#32)) N))
    (broadcastInDim S1792x18944 ![0, 1] bcast_S1x18944_S1792x18944_0_1 (broadcastInDim S1x18944 ![1] bcast_S18944_S1x18944_1
      (truncf .bf16 q bitsLt_bf16_f32)))

theorem low_bits (w : BitVec 8) : BitVec.setWidth 32 w &&& 15#32 = (BitVec.extractLsb' 0 4 w).setWidth 32 := by
  revert w
  decide +kernel

theorem high_bits (w : BitVec 8) : IntOp.shrsi .host (BitVec.setWidth 32 w) 4#32 = (BitVec.extractLsb' 4 4 w).setWidth 32 := by
  revert w
  decide +kernel

/-- The sign of a code, chosen by a comparison. -/
theorem sitofp_select (v : BitVec 32) :
    (FloatOps.sitofp .bf16 (Scalar.select (IntOp.cmpi .sge v 8#32) (IntOp.subi v 16#32) v) : Ideal .bf16)
      = (((if BitVec.sle 8#32 v then v - 16#32 else v).toInt : ℝ) : EReal) := by
  show (((Scalar.select (IntOp.cmpi .sge v 8#32) (IntOp.subi v 16#32) v).toInt : ℝ) : EReal) = _
  unfold Scalar.select IntOp.cmpi
  cases h : BitVec.sle 8#32 v <;> simp [h, IntOp.subi]

theorem low_apply (W : Vec Ideal S1792x18944 .i8) (r : Fin 1792) (k : Fin 18944) :
    low W (ix2 r k) = (BitVec.extractLsb' 0 4 (W (ix2 r k) : BitVec 8)).setWidth 32 := by
  show (BitVec.setWidth 32 (W (ix2 r k) : BitVec 8)) &&& 15#32 = _
  exact low_bits _

theorem high_apply (W : Vec Ideal S1792x18944 .i8) (r : Fin 1792) (k : Fin 18944) :
    high W (ix2 r k) = (BitVec.extractLsb' 4 4 (W (ix2 r k) : BitVec 8)).setWidth 32 := by
  exact high_bits _

theorem weights_apply (N : IVec S1792x18944 32) (q : Vec Ideal S18944 .f32) (r : Fin 1792) (k : Fin 18944) (n : BitVec 4)
    (h : N (ix2 r k) = n.setWidth 32) : weights N q (ix2 r k) = Nibble.value n * q (ix1 k) := by
  pointwise
  refine congrArg (· * q (ix1 k)) ?_
  rw [h]
  unfold Nibble.value
  rw [← Nibble.signed_word n]
  exact sitofp_select _

theorem product_apply (D : Vec Ideal S2048x18944 .bf16) (w : FVec Ideal S1792x18944 .bf16) (s : Fin 2048) (r : Fin 1792) :
    (Host.dotGeneral (F := Ideal) (φ₁ := .bf16) (φ₂ := .bf16) dot_S2048x18944_S1792x18944_S2048x1792_1_1_0_0_n_n none D w : FVec Ideal S2048x1792 .f32) (ix2 s r) = ∑ k : Fin 18944, (D (ix2 s k) * w (ix2 r k) : EReal) := by
  pointwise

/-- The product of the gradient and weights. -/
abbrev product (D : FVec Ideal S2048x18944 .bf16) (w : FVec Ideal S1792x18944 .bf16) : FVec Ideal S2048x1792 .f32 :=
  Host.dotGeneral (F := Ideal) (φ₁ := .bf16) (φ₂ := .bf16) dot_S2048x18944_S1792x18944_S2048x1792_1_1_0_0_n_n none D w

open Cert.KernelIdeal.MainValue (chan code part result token)

/-- A product's entry, of weights whose codes are those of channel `h`. -/
theorem product_part (D : FVec Ideal S2048x18944 .bf16) (W : Vec Ideal S1792x18944 .i8) (q : Vec Ideal S18944 .f32) (N : IVec S1792x18944 32)
    (s : Fin 2048) (h : Fin 3584) (hN : ∀ k, N (ix2 (⟨h.val / 2, by omega⟩ : Fin 1792) k) = (code W h k).setWidth 32) :
    product D (weights N q) (ix2 s (⟨h.val / 2, by omega⟩ : Fin 1792)) = ∑ k : Fin 18944, part D W q s h k := by
  refine (product_apply D _ s _).trans (Finset.sum_congr rfl fun k _ => ?_)
  rw [weights_apply N q _ k (code W h k) (hN k), mul_comm]
  rfl

/-- The reference's result. -/
theorem laidOut_product (D : FVec Ideal S2048x18944 .bf16) (W : Vec Ideal S1792x18944 .i8) (q : Vec Ideal S18944 .f32) :
    laidOut (inTurn (product D (weights (low W) q)) (product D (weights (high W) q))) = result D W q := by
  funext y
  idx_vars y
  rename' y0 => t, y1 => r, y2 => l
  rw [laidOut_apply, inTurn_apply]
  show _ = ∑ k : Fin 18944, part D W q (token (ix3 t r l)) (chan r) k
  have hc := (chan r).isLt
  by_cases e : (chan r).val % 2 = 0
  · rw [if_pos e]
    refine product_part D W q _ _ (chan r) fun k => ?_
    rw [low_apply]
    unfold code
    rw [e]
  · rw [if_neg e]
    refine product_part D W q _ _ (chan r) fun k => ?_
    rw [high_apply]
    unfold code
    rw [show (chan r).val % 2 = 1 by omega]

/-- The reference's run leaves it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = result (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (laidOut_product _ _ _), (h c).2⟩) (Cert.ReferenceIdeal.Value.run m ρ)

end Cert.ReferenceIdeal.MainValue

end
-- ==== Proof.SideLoops.lean ====
/- The two loops of the kernel with strided stores. -/
module

public import proofs.«01_k».proof.Proof.Gen.XSide.Loops

@[expose] public section

set_option maxRecDepth 16384

noncomputable section

namespace Cert.XSide.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSide Cert.XSide.Gen

variable {F : FTy → Type} [BitOps F]

local notation "𝕄" => MT nD τ sig Unit (Elt F) ℕ (UR sig nD τ) ℕ

set_option warn.classDefReducibility false in
set_option maxHeartbeats 4000000 in
set_option sl_exec.squeezeSlice true in
/-- The loop `k0_t1_loop`: it reads some buffers, which keep their contents, and writes others, of which nothing is said. -/
@[sl_loop] def loop_k0_t1 (𝒱 : Variants) (c : Dev nD) (bd : Option 𝒱.V) (E : Set ℕ) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (v269 : FVec F S128x128 .bf16) (v283 : Vec F S64x192 .bf16) (Xarg5 : BufTy.Contents (Elt F) arg5.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v269 v283 where
  inv _ _ := iprop((arg5.view.loc (c : Thread nD τ) ↦[arg5.view.set]{fullShare} Xarg5) ∗ (∃ f, (arg6.view.loc (c : Thread nD τ) ↦[arg6.view.set]{fullShare} f)))
  step k acc := by
    have hk : k.val < 7 := Nat.lt_of_lt_of_le k.isLt k0_t1_abs.2.1
    unfold k0_t1_body
    iintro ⟨Rarg5, ⟨%farg6, Warg6⟩⟩
    sl_exec
    sl_step
    isplitl [Rarg5]; · iexact Rarg5
    iexists _; iexact Warg6

set_option warn.classDefReducibility false in
set_option maxHeartbeats 4000000 in
set_option sl_exec.squeezeSlice true in
/-- The loop `k0_t3_loop`: it reads some buffers, which keep their contents, and writes others, of which nothing is said. -/
@[sl_loop] def loop_k0_t3 (𝒱 : Variants) (c : Dev nD) (bd : Option 𝒱.V) (E : Set ℕ) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (v291 : FVec F S1x256 .f32) (v294 : Elt F .f32) (v295 : FVec F S1x256 .f32) (v296 : IVec S1x256 1) (v297 : FVec F S1x256 .f32) (Xarg14 : BufTy.Contents (Elt F) arg14.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v291 v294 v295 v296 v297 where
  inv _ _ := iprop((arg14.view.loc (c : Thread nD τ) ↦[arg14.view.set]{fullShare} Xarg14) ∗ (∃ f, (arg7.view.loc (c : Thread nD τ) ↦[arg7.view.set]{fullShare} f)) ∗ (∃ f, (arg15.view.loc (c : Thread nD τ) ↦[arg15.view.set]{fullShare} f)))
  step k acc := by
    have hk : k.val < 16 := Nat.lt_of_lt_of_le k.isLt k0_t3_abs.2.1
    unfold k0_t3_body
    iintro ⟨Rarg14, ⟨%farg7, Warg7⟩, ⟨%farg15, Warg15⟩⟩
    sl_exec
    sl_step
    isplitl [Rarg14]; · iexact Rarg14
    isplitl [Warg7]; · iexists _; iexact Warg7
    iexists _; iexact Warg15

end Cert.XSide.Hand

end
-- ==== Proof.SideFirst.lean ====
/- The body at the first point. -/
module

public import proofs.«01_k».proof.Proof.SideLoops
public import proofs.«01_k».proof.Proof.Gen.XSide.Frame

@[expose] public section

set_option maxRecDepth 16384

noncomputable section

namespace Cert.XSide.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSide Cert.XSide.Gen

variable {F : FTy → Type} [BitOps F]

local notation "𝕄" => MT nD τ sig Unit (Elt F) ℕ (UR sig nD τ) ℕ

/-- The point is the first. -/
abbrev first (i : grid0.Coords) : Prop := (Scalar.cmpi .ne (Scalar.extui (Scalar.cmpi .eq (BitVec.ofNat 32 (i 0).val) 0#32)) 0#32) = 1#1

set_option maxHeartbeats 16000000 in
/-- The body at the first point: the inputs' blocks stay as they are, and of every other buffer nothing is said. -/
theorem runFirst (c : Dev nD) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (hc : first i) (x1 : Vec F S1 .f32) (x2 : Vec F S256x3584 .bf16) (x3 : Vec F S56x56 .f32) (x4 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_x_side i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_x_side_eq_skeleton]; unfold cc0_x_side_skel
  simp only [k0_part1_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

end Cert.XSide.Hand

end
-- ==== Proof.SideLater.lean ====
/- The body at a later point. -/
module

public import proofs.«01_k».proof.Proof.SideFirst

@[expose] public section

set_option maxRecDepth 16384

noncomputable section

namespace Cert.XSide.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSide Cert.XSide.Gen

variable {F : FTy → Type} [BitOps F]

local notation "𝕄" => MT nD τ sig Unit (Elt F) ℕ (UR sig nD τ) ℕ

set_option maxHeartbeats 16000000 in
/-- The body at a later point: the inputs' blocks stay as they are, and of every other buffer nothing is said. -/
theorem runLater (c : Dev nD) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (hc : ¬first i) (x1 : Vec F S1 .f32) (x2 : Vec F S256x3584 .bf16) (x3 : Vec F S56x56 .f32) (x4 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_x_side i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_x_side_eq_skeleton]; unfold cc0_x_side_skel
  simp only [k0_part1_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

end Cert.XSide.Hand

end
-- ==== Proof.SideFrame.lean ====
/- The frame of the call. -/
module

public import proofs.«01_k».proof.Proof.SideLater
public import proofs.«01_k».proof.Proof.Gen.XSide.Frame

@[expose] public section

set_option maxRecDepth 16384

noncomputable section

namespace Cert.XSide.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSide Cert.XSide.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The results, of which the frame says nothing. -/
def fgt (w : Fin cfg0.W) : Bool := ((cfg0.win w).isOut)

/-- The proof data: the inputs keep their blocks, the results are left unnamed, the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl, scratch_eq,
    after_0, after_1, after_2, after_3, show (dats m 0 c).owesAt () t.succ = (dats m 0 c).owesAt () t.castSucc from rfl]
  iintro ⟨⟨⟨HS0, HS1, HS2, HS3⟩, Hg⟩, HW, ⟨%d0, H0⟩, ⟨%d1, H1⟩, ⟨%d2, H2⟩, ⟨%d3, H3⟩, H4, H5, H6, H7, H8, H9, H10⟩
  by_cases h : first (grid0.coords t)
  · iapply (runFirst c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) h (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iapply (runLater c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) h (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c w => by unfold Pipeline.Dat.share; simp [dats]) (howed := fun _ _ => rfl)
    (V := V m) (hmain := hmain m Variants.none) (hA := A_eq m) (hΦ := fun _ _ => rfl)

/-- The frame: the call ends, its arguments are as they were, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(cast (congrFun (((dats m 0 c).toRForget fgt).ArrAt_in 1 rfl _) _) ((h.1 c).1 1) : _ = _).trans (V_main_arg0 m c),
     (cast (congrFun (((dats m 0 c).toRForget fgt).ArrAt_in 2 rfl _) _) ((h.1 c).1 2) : _ = _).trans (V_main_arg1 m c),
     (cast (congrFun (((dats m 0 c).toRForget fgt).ArrAt_in 3 rfl _) _) ((h.1 c).1 3) : _ = _).trans (V_main_arg2 m c),
     (cast (congrFun (((dats m 0 c).toRForget fgt).ArrAt_in 0 rfl _) _) ((h.1 c).1 0) : _ = _).trans (V_main_arg3 m c)⟩, h.2⟩) (run_main m ρ)

end Cert.XSide.Hand

end
-- ==== Proof.SideIdealLoops.lean ====
/- The two loops of the kernel with strided stores. -/
module

public import proofs.«01_k».proof.Proof.Gen.XSideIdeal.Loops

@[expose] public section

set_option maxRecDepth 16384

noncomputable section

namespace Cert.XSideIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSideIdeal Cert.XSideIdeal.Gen

variable {F : FTy → Type} [FloatOps F]

local notation "𝕄" => MT nD τ sig Unit (Elt F) ℕ (UR sig nD τ) ℕ

set_option warn.classDefReducibility false in
set_option maxHeartbeats 4000000 in
set_option sl_exec.squeezeSlice true in
/-- The loop `k0_t1_loop`: it reads some buffers, which keep their contents, and writes others, of which nothing is said. -/
@[sl_loop] def loop_k0_t1 (𝒱 : Variants) (c : Dev nD) (bd : Option 𝒱.V) (E : Set ℕ) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (v269 : FVec F S128x128 .bf16) (v283 : Vec F S64x192 .bf16) (Xarg5 : BufTy.Contents (Elt F) arg5.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v269 v283 where
  inv _ _ := iprop((arg5.view.loc (c : Thread nD τ) ↦[arg5.view.set]{fullShare} Xarg5) ∗ (∃ f, (arg6.view.loc (c : Thread nD τ) ↦[arg6.view.set]{fullShare} f)))
  step k acc := by
    have hk : k.val < 7 := Nat.lt_of_lt_of_le k.isLt k0_t1_abs.2.1
    unfold k0_t1_body
    iintro ⟨Rarg5, ⟨%farg6, Warg6⟩⟩
    sl_exec
    sl_step
    isplitl [Rarg5]; · iexact Rarg5
    iexists _; iexact Warg6

set_option warn.classDefReducibility false in
set_option maxHeartbeats 4000000 in
set_option sl_exec.squeezeSlice true in
/-- The loop `k0_t3_loop`: it reads some buffers, which keep their contents, and writes others, of which nothing is said. -/
@[sl_loop] def loop_k0_t3 (𝒱 : Variants) (c : Dev nD) (bd : Option 𝒱.V) (E : Set ℕ) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (v291 : FVec F S1x256 .f32) (v294 : Elt F .f32) (v295 : FVec F S1x256 .f32) (v296 : IVec S1x256 1) (v297 : FVec F S1x256 .f32) (Xarg14 : BufTy.Contents (Elt F) arg14.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v291 v294 v295 v296 v297 where
  inv _ _ := iprop((arg14.view.loc (c : Thread nD τ) ↦[arg14.view.set]{fullShare} Xarg14) ∗ (∃ f, (arg7.view.loc (c : Thread nD τ) ↦[arg7.view.set]{fullShare} f)) ∗ (∃ f, (arg15.view.loc (c : Thread nD τ) ↦[arg15.view.set]{fullShare} f)))
  step k acc := by
    have hk : k.val < 16 := Nat.lt_of_lt_of_le k.isLt k0_t3_abs.2.1
    unfold k0_t3_body
    iintro ⟨Rarg14, ⟨%farg7, Warg7⟩, ⟨%farg15, Warg15⟩⟩
    sl_exec
    sl_step
    isplitl [Rarg14]; · iexact Rarg14
    isplitl [Warg7]; · iexists _; iexact Warg7
    iexists _; iexact Warg15

end Cert.XSideIdeal.Hand

end
-- ==== Proof.SideIdealFirst.lean ====
/- The body at the first point. -/
module

public import proofs.«01_k».proof.Proof.SideIdealLoops
public import proofs.«01_k».proof.Proof.Gen.XSideIdeal.Frame

@[expose] public section

set_option maxRecDepth 16384

noncomputable section

namespace Cert.XSideIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSideIdeal Cert.XSideIdeal.Gen

variable {F : FTy → Type} [FloatOps F]

local notation "𝕄" => MT nD τ sig Unit (Elt F) ℕ (UR sig nD τ) ℕ

/-- The point is the first. -/
abbrev first (i : grid0.Coords) : Prop := (Scalar.cmpi .ne (Scalar.extui (Scalar.cmpi .eq (BitVec.ofNat 32 (i 0).val) 0#32)) 0#32) = 1#1

set_option maxHeartbeats 16000000 in
/-- The body at the first point: the inputs' blocks stay as they are, and of every other buffer nothing is said. -/
theorem runFirst (c : Dev nD) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (hc : first i) (x1 : Vec F S1 .f32) (x2 : Vec F S256x3584 .bf16) (x3 : Vec F S56x56 .f32) (x4 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_x_side i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_x_side_eq_skeleton]; unfold cc0_x_side_skel
  simp only [k0_part1_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

end Cert.XSideIdeal.Hand

end
-- ==== Proof.SideIdealLater.lean ====
/- The body at a later point. -/
module

public import proofs.«01_k».proof.Proof.SideIdealFirst

@[expose] public section

set_option maxRecDepth 16384

noncomputable section

namespace Cert.XSideIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSideIdeal Cert.XSideIdeal.Gen

variable {F : FTy → Type} [FloatOps F]

local notation "𝕄" => MT nD τ sig Unit (Elt F) ℕ (UR sig nD τ) ℕ

set_option maxHeartbeats 16000000 in
/-- The body at a later point: the inputs' blocks stay as they are, and of every other buffer nothing is said. -/
theorem runLater (c : Dev nD) (i : grid0.Coords) (arg1 : Memref sig .tc .smem S1 .f32) (harg1 : arg1.IsWhole) (arg2 : Memref sig .tc .vmem S256x3584 .bf16) (harg2 : arg2.IsWhole) (arg3 : Memref sig .tc .vmem S56x56 .f32) (harg3 : arg3.IsWhole) (arg4 : Memref sig .tc .vmem S64x64 .f32) (harg4 : arg4.IsWhole) (arg5 : Memref sig .tc .vmem S2x3584x128 .bf16) (harg5 : arg5.IsWhole) (arg6 : Memref sig .tc .vmem S2x3584x128 .f32) (harg6 : arg6.IsWhole) (arg7 : Memref sig .tc .vmem S2x3584x128 .i8) (harg7 : arg7.IsWhole) (arg8 : Memref sig .tc .vmem S256x3584 .i8) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x192 .bf16) (harg12 : arg12.IsWhole) (arg13 : Memref sig .tc .vmem S112x224 .bf16) (harg13 : arg13.IsWhole) (arg14 : Memref sig .tc .vmem S2x3584x128 .f32) (harg14 : arg14.IsWhole) (arg15 : Memref sig .tc .vmem S2x4032x128 .f32) (harg15 : arg15.IsWhole) (hc : ¬first i) (x1 : Vec F S1 .f32) (x2 : Vec F S256x3584 .bf16) (x3 : Vec F S56x56 .f32) (x4 : Vec F S64x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ (cc0_x_side i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_x_side_eq_skeleton]; unfold cc0_x_side_skel
  simp only [k0_part1_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4
  sl_exec (disch := sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

end Cert.XSideIdeal.Hand

end
-- ==== Proof.SideIdealFrame.lean ====
/- The frame of the call. -/
module

public import proofs.«01_k».proof.Proof.SideIdealLater
public import proofs.«01_k».proof.Proof.Gen.XSideIdeal.Frame

@[expose] public section

set_option maxRecDepth 16384

noncomputable section

namespace Cert.XSideIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.XSideIdeal Cert.XSideIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results, of which the frame says nothing. -/
def fgt (w : Fin cfg0.W) : Bool := ((cfg0.win w).isOut)

/-- The proof data: the inputs keep their blocks, the results are left unnamed, the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d

theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl, scratch_eq,
    after_0, after_1, after_2, after_3, show (dats m 0 c).owesAt () t.succ = (dats m 0 c).owesAt () t.castSucc from rfl]
  iintro ⟨⟨⟨HS0, HS1, HS2, HS3⟩, Hg⟩, HW, ⟨%d0, H0⟩, ⟨%d1, H1⟩, ⟨%d2, H2⟩, ⟨%d3, H3⟩, H4, H5, H6, H7, H8, H9, H10⟩
  by_cases h : first (grid0.coords t)
  · iapply (runFirst c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) h (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iapply (runLater c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) h (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c w => by unfold Pipeline.Dat.share; simp [dats]) (howed := fun _ _ => rfl)
    (V := V m) (hmain := hmain m Variants.none) (hA := A_eq m) (hΦ := fun _ _ => rfl)

/-- The frame: the call ends, its arguments are as they were, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(cast (congrFun (((dats m 0 c).toRForget fgt).ArrAt_in 1 rfl _) _) ((h.1 c).1 1) : _ = _).trans (V_main_arg0 m c),
     (cast (congrFun (((dats m 0 c).toRForget fgt).ArrAt_in 2 rfl _) _) ((h.1 c).1 2) : _ = _).trans (V_main_arg1 m c),
     (cast (congrFun (((dats m 0 c).toRForget fgt).ArrAt_in 3 rfl _) _) ((h.1 c).1 3) : _ = _).trans (V_main_arg2 m c),
     (cast (congrFun (((dats m 0 c).toRForget fgt).ArrAt_in 0 rfl _) _) ((h.1 c).1 0) : _ = _).trans (V_main_arg3 m c)⟩, h.2⟩) (run_main m ρ)

end Cert.XSideIdeal.Hand

end
-- ==== Proof.lean ====
/- The certificate: the frames of the two calls and of the reference, the rewrites, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Plain
public import proofs.«01_k».proof.Proof.Gen.XSide
public import proofs.«01_k».proof.Proof.Gen.XSide.Skeleton
public import proofs.«01_k».proof.Proof.Gen.XSide.Launch
public import proofs.«01_k».proof.Proof.Gen.XSide.Points
public import proofs.«01_k».proof.Proof.Gen.XSide.Loops
public import proofs.«01_k».proof.Proof.Gen.XSide.Frame
public import proofs.«01_k».proof.Proof.SideFrame
public import proofs.«01_k».proof.Proof.Gen.XSideIdeal
public import proofs.«01_k».proof.Proof.Gen.XSideIdeal.Skeleton
public import proofs.«01_k».proof.Proof.Gen.XSideIdeal.Launch
public import proofs.«01_k».proof.Proof.Gen.XSideIdeal.Points
public import proofs.«01_k».proof.Proof.Gen.XSideIdeal.Loops
public import proofs.«01_k».proof.Proof.Gen.XSideIdeal.Frame
public import proofs.«01_k».proof.Proof.SideIdealFrame
public import Idealize.ShloMosaic.Lib.Bf16Pair
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference has no semaphores, so its frame is its run's. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩) (Cert.ReferenceIdeal.MainValue.run m ρ)

/-- The kernel's run leaves the product. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
      r.2.mem ((c.tc : Thread Cert.KernelIdeal.nD Cert.KernelIdeal.τ).loc Cert.KernelIdeal.main_v1)
        = Cert.KernelIdeal.MainValue.result (Cert.KernelIdeal.MainValue.gradient m c) (Cert.KernelIdeal.MainValue.codes m c)
          (Cert.KernelIdeal.MainValue.colScales m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run Cert.KernelIdeal.defs _ _).mono
    (fun _ h c => ⟨(h.2.2 c Cert.KernelIdeal.main_v1 (Finset.mem_singleton_self _)).trans (Cert.KernelIdeal.MainValue.final_eq m c), h.1 c⟩)
    (θ_run_and (Cert.KernelIdeal.Gen.unchanged m ρ) (Cert.KernelIdeal.Gen.run_main m ρ))

/-- The kernel and the reference leave the same product. -/
theorem value : Cert.algebraic_KernelIdeal_ReferenceIdeal (hKernelIdeal := Cert.KernelIdeal.Gen.facts)
    (hReferenceIdeal := Cert.ReferenceIdeal.Gen.facts) := by
  intro m g m' g' _ agree
  refine ⟨_, kernel_run m g, ?_⟩
  refine (θ_run Cert.ReferenceIdeal.defs _ _).mono (fun _ h c => ⟨(h c).1.trans ?_, (h c).2⟩) (Cert.ReferenceIdeal.MainValue.run m' g')
  rw [(agree c).1, (agree c).2.1, (agree c).2.2]

/-- The rewrites of the second call: a float's leading sixteen bits, and two of them packed into a word. -/
theorem rewrites : Cert.preserves_XSide_XSideIdeal :=
  ⟨IdealRules.bf16_pack.statement _, IdealRules.bf16_pair.statement _ _ (by decide)⟩

theorem claim : Cert.Claim := ⟨Cert.Kernel.Gen.facts, Cert.KernelIdeal.Gen.facts, Cert.ReferenceIdeal.Gen.facts, Cert.XSide.Gen.facts,
  Cert.XSideIdeal.Gen.facts,
  fun m ρ _ => Cert.Kernel.Gen.frame m ρ, fun m ρ _ => Cert.KernelIdeal.Gen.frame m ρ, frame_reference,
  fun m ρ _ => Cert.XSide.Hand.frame m ρ, fun m ρ _ => Cert.XSideIdeal.Hand.frame m ρ, trivial, value, rewrites⟩

end Cert.Proof

end
